-- ==== Defs.lean ====
def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaIdeal_na_finite [hPre_na_finite : Cert.Pre_na_finite.Facts] (m : (ℓ : Loc Cert.NaIdeal.nD Cert.NaIdeal.τ Cert.NaIdeal.sig) → Buf (Elt Ideal) ℓ) : Prop :=
  ∀ c : Dev Cert.NaIdeal.nD,
    (Cert.Pre_na_finite.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3))) = (fun _ => 1#1)

def Pre_NaRefIdeal (m : (ℓ : Loc Cert.NaRefIdeal.nD Cert.NaRefIdeal.τ Cert.NaRefIdeal.sig) → Buf (Elt Ideal) ℓ) : Prop :=
  True

def Pre_NaRefIdeal_na_finite [hPre_na_finite : Cert.Pre_na_finite.Facts] (m : (ℓ : Loc Cert.NaRefIdeal.nD Cert.NaRefIdeal.τ Cert.NaRefIdeal.sig) → Buf (Elt Ideal) ℓ) : Prop :=
  ∀ c : Dev Cert.NaRefIdeal.nD,
    (Cert.Pre_na_finite.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1)) (m ((c.tc : Thread Cert.NaRefIdeal.nD Cert.NaRefIdeal.τ).loc Cert.NaRefIdeal.main_arg2)) (m ((c.tc : Thread Cert.NaRefIdeal.nD Cert.NaRefIdeal.τ).loc Cert.NaRefIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Exp [hPre_exp_ranges : Cert.Pre_exp_ranges.Facts] (m : (ℓ : Loc Cert.Exp.nD Cert.Exp.τ Cert.Exp.sig) → Buf (Elt Bits) ℓ) : Prop :=
  ∀ c : Dev Cert.Exp.nD,
    (Cert.Pre_exp_ranges.fn (F := Bits) (m ((c.tc : Thread Cert.Exp.nD Cert.Exp.τ).loc Cert.Exp.main_arg0)) (m ((c.tc : Thread Cert.Exp.nD Cert.Exp.τ).loc Cert.Exp.main_arg1)) (m ((c.tc : Thread Cert.Exp.nD Cert.Exp.τ).loc Cert.Exp.main_arg2)) (m ((c.tc : Thread Cert.Exp.nD Cert.Exp.τ).loc Cert.Exp.main_arg3)) (m ((c.tc : Thread Cert.Exp.nD Cert.Exp.τ).loc Cert.Exp.main_arg4)) (m ((c.tc : Thread Cert.Exp.nD Cert.Exp.τ).loc Cert.Exp.main_arg5))) = (fun _ => 1#1)

def Pre_ExpIdeal [hPre_exp_ranges : Cert.Pre_exp_ranges.Facts] (m : (ℓ : Loc Cert.ExpIdeal.nD Cert.ExpIdeal.τ Cert.ExpIdeal.sig) → Buf (Elt Ideal) ℓ) : Prop :=
  ∀ c : Dev Cert.ExpIdeal.nD,
    (Cert.Pre_exp_ranges.fn (F := Ideal) (m ((c.tc : Thread Cert.ExpIdeal.nD Cert.ExpIdeal.τ).loc Cert.ExpIdeal.main_arg0)) (m ((c.tc : Thread Cert.ExpIdeal.nD Cert.ExpIdeal.τ).loc Cert.ExpIdeal.main_arg1)) (m ((c.tc : Thread Cert.ExpIdeal.nD Cert.ExpIdeal.τ).loc Cert.ExpIdeal.main_arg2)) (m ((c.tc : Thread Cert.ExpIdeal.nD Cert.ExpIdeal.τ).loc Cert.ExpIdeal.main_arg3)) (m ((c.tc : Thread Cert.ExpIdeal.nD Cert.ExpIdeal.τ).loc Cert.ExpIdeal.main_arg4)) (m ((c.tc : Thread Cert.ExpIdeal.nD Cert.ExpIdeal.τ).loc Cert.ExpIdeal.main_arg5))) = (fun _ => 1#1)

def Pre_ExpRefIdeal (m : (ℓ : Loc Cert.ExpRefIdeal.nD Cert.ExpRefIdeal.τ Cert.ExpRefIdeal.sig) → Buf (Elt Ideal) ℓ) : Prop :=
  True

def Pre_ExpRefIdeal_exp_ranges [hPre_exp_ranges : Cert.Pre_exp_ranges.Facts] (m : (ℓ : Loc Cert.ExpRefIdeal.nD Cert.ExpRefIdeal.τ Cert.ExpRefIdeal.sig) → Buf (Elt Ideal) ℓ) : Prop :=
  ∀ c : Dev Cert.ExpRefIdeal.nD,
    (Cert.Pre_exp_ranges.fn (F := Ideal) (m ((c.tc : Thread Cert.ExpRefIdeal.nD Cert.ExpRefIdeal.τ).loc Cert.ExpRefIdeal.main_arg0)) (m ((c.tc : Thread Cert.ExpRefIdeal.nD Cert.ExpRefIdeal.τ).loc Cert.ExpRefIdeal.main_arg1)) (m ((c.tc : Thread Cert.ExpRefIdeal.nD Cert.ExpRefIdeal.τ).loc Cert.ExpRefIdeal.main_arg2)) (m ((c.tc : Thread Cert.ExpRefIdeal.nD Cert.ExpRefIdeal.τ).loc Cert.ExpRefIdeal.main_arg3)) (m ((c.tc : Thread Cert.ExpRefIdeal.nD Cert.ExpRefIdeal.τ).loc Cert.ExpRefIdeal.main_arg4)) (m ((c.tc : Thread Cert.ExpRefIdeal.nD Cert.ExpRefIdeal.τ).loc Cert.ExpRefIdeal.main_arg5))) = (fun _ => 1#1)

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1)
      ∧ r.2.mem ((c.tc : Thread Cert.Na.nD Cert.Na.τ).loc Cert.Na.main_arg2) = m ((c.tc : Thread Cert.Na.nD Cert.Na.τ).loc Cert.Na.main_arg2)
      ∧ r.2.mem ((c.tc : Thread Cert.Na.nD Cert.Na.τ).loc Cert.Na.main_arg3) = m ((c.tc : Thread Cert.Na.nD Cert.Na.τ).loc Cert.Na.main_arg3))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ r.2.sem = fun _ => 0)

def quiescent_NaIdeal_pre_na_finite [hNaIdeal : Cert.NaIdeal.Facts] [hPre_na_finite : Cert.Pre_na_finite.Facts] : Prop :=
  ∀ (m : (ℓ : Loc Cert.NaIdeal.nD Cert.NaIdeal.τ Cert.NaIdeal.sig) → Buf (Elt Ideal) ℓ) (g : Dev Cert.NaIdeal.nD → PrngReg), Pre_NaIdeal_na_finite m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ r.2.sem = fun _ => 0)

def quiescent_NaRefIdeal [hNaRefIdeal : Cert.NaRefIdeal.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3))
      ∧ r.2.sem = fun _ => 0)

def quiescent_NaRefIdeal_pre_na_finite [hNaRefIdeal : Cert.NaRefIdeal.Facts] [hPre_na_finite : Cert.Pre_na_finite.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal_na_finite m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16))
      ∧ r.2.sem = fun _ => 0)

def quiescent_Exp [hExp : Cert.Exp.Facts] [hPre_exp_ranges : Cert.Pre_exp_ranges.Facts] : Prop :=
  ∀ (m : (ℓ : Loc Cert.Exp.nD Cert.Exp.τ Cert.Exp.sig) → Buf (Elt Bits) ℓ) (g : Dev Cert.Exp.nD → PrngReg), Pre_Exp m →
    θ_run (Cert.Exp.defs (F := Bits)) (onTc (τ := Cert.Exp.τ) (Cert.Exp.main (F := Bits))) ⟨m, fun _ => 0, g⟩ (fun r => (∀ c : Dev Cert.Exp.nD,
      r.2.mem ((c.tc : Thread Cert.Exp.nD Cert.Exp.τ).loc Cert.Exp.main_arg0) = m ((c.tc : Thread Cert.Exp.nD Cert.Exp.τ).loc Cert.Exp.main_arg0)
      ∧ r.2.mem ((c.tc : Thread Cert.Exp.nD Cert.Exp.τ).loc Cert.Exp.main_arg1) = m ((c.tc : Thread Cert.Exp.nD Cert.Exp.τ).loc Cert.Exp.main_arg1)
      ∧ r.2.mem ((c.tc : Thread Cert.Exp.nD Cert.Exp.τ).loc Cert.Exp.main_arg2) = m ((c.tc : Thread Cert.Exp.nD Cert.Exp.τ).loc Cert.Exp.main_arg2)
      ∧ r.2.mem ((c.tc : Thread Cert.Exp.nD Cert.Exp.τ).loc Cert.Exp.main_arg3) = m ((c.tc : Thread Cert.Exp.nD Cert.Exp.τ).loc Cert.Exp.main_arg3)
      ∧ r.2.mem ((c.tc : Thread Cert.Exp.nD Cert.Exp.τ).loc Cert.Exp.main_arg4) = m ((c.tc : Thread Cert.Exp.nD Cert.Exp.τ).loc Cert.Exp.main_arg4)
      ∧ r.2.mem ((c.tc : Thread Cert.Exp.nD Cert.Exp.τ).loc Cert.Exp.main_arg5) = m ((c.tc : Thread Cert.Exp.nD Cert.Exp.τ).loc Cert.Exp.main_arg5))
      ∧ r.2.sem = fun _ => 0)

def quiescent_ExpIdeal [hExpIdeal : Cert.ExpIdeal.Facts] [hPre_exp_ranges : Cert.Pre_exp_ranges.Facts] : Prop :=
  ∀ (m : (ℓ : Loc Cert.ExpIdeal.nD Cert.ExpIdeal.τ Cert.ExpIdeal.sig) → Buf (Elt Ideal) ℓ) (g : Dev Cert.ExpIdeal.nD → PrngReg), Pre_ExpIdeal m →
    θ_run (Cert.ExpIdeal.defs (F := Ideal)) (onTc (τ := Cert.ExpIdeal.τ) (Cert.ExpIdeal.main (F := Ideal))) ⟨m, fun _ => 0, g⟩ (fun r => (∀ c : Dev Cert.ExpIdeal.nD,
      r.2.mem ((c.tc : Thread Cert.ExpIdeal.nD Cert.ExpIdeal.τ).loc Cert.ExpIdeal.main_arg0) = m ((c.tc : Thread Cert.ExpIdeal.nD Cert.ExpIdeal.τ).loc Cert.ExpIdeal.main_arg0)
      ∧ r.2.mem ((c.tc : Thread Cert.ExpIdeal.nD Cert.ExpIdeal.τ).loc Cert.ExpIdeal.main_arg1) = m ((c.tc : Thread Cert.ExpIdeal.nD Cert.ExpIdeal.τ).loc Cert.ExpIdeal.main_arg1)
      ∧ r.2.mem ((c.tc : Thread Cert.ExpIdeal.nD Cert.ExpIdeal.τ).loc Cert.ExpIdeal.main_arg2) = m ((c.tc : Thread Cert.ExpIdeal.nD Cert.ExpIdeal.τ).loc Cert.ExpIdeal.main_arg2)
      ∧ r.2.mem ((c.tc : Thread Cert.ExpIdeal.nD Cert.ExpIdeal.τ).loc Cert.ExpIdeal.main_arg3) = m ((c.tc : Thread Cert.ExpIdeal.nD Cert.ExpIdeal.τ).loc Cert.ExpIdeal.main_arg3)
      ∧ r.2.mem ((c.tc : Thread Cert.ExpIdeal.nD Cert.ExpIdeal.τ).loc Cert.ExpIdeal.main_arg4) = m ((c.tc : Thread Cert.ExpIdeal.nD Cert.ExpIdeal.τ).loc Cert.ExpIdeal.main_arg4)
      ∧ r.2.mem ((c.tc : Thread Cert.ExpIdeal.nD Cert.ExpIdeal.τ).loc Cert.ExpIdeal.main_arg5) = m ((c.tc : Thread Cert.ExpIdeal.nD Cert.ExpIdeal.τ).loc Cert.ExpIdeal.main_arg5))
      ∧ r.2.sem = fun _ => 0)

def quiescent_ExpRefIdeal [hExpRefIdeal : Cert.ExpRefIdeal.Facts] : Prop :=
  ∀ (m : (ℓ : Loc Cert.ExpRefIdeal.nD Cert.ExpRefIdeal.τ Cert.ExpRefIdeal.sig) → Buf (Elt Ideal) ℓ) (g : Dev Cert.ExpRefIdeal.nD → PrngReg), Pre_ExpRefIdeal m →
    θ_run (Cert.ExpRefIdeal.defs (F := Ideal)) (onTc (τ := Cert.ExpRefIdeal.τ) (Cert.ExpRefIdeal.main (F := Ideal))) ⟨m, fun _ => 0, g⟩ (fun r => (∀ c : Dev Cert.ExpRefIdeal.nD,
      r.2.mem ((c.tc : Thread Cert.ExpRefIdeal.nD Cert.ExpRefIdeal.τ).loc Cert.ExpRefIdeal.main_arg0) = m ((c.tc : Thread Cert.ExpRefIdeal.nD Cert.ExpRefIdeal.τ).loc Cert.ExpRefIdeal.main_arg0)
      ∧ r.2.mem ((c.tc : Thread Cert.ExpRefIdeal.nD Cert.ExpRefIdeal.τ).loc Cert.ExpRefIdeal.main_arg1) = m ((c.tc : Thread Cert.ExpRefIdeal.nD Cert.ExpRefIdeal.τ).loc Cert.ExpRefIdeal.main_arg1)
      ∧ r.2.mem ((c.tc : Thread Cert.ExpRefIdeal.nD Cert.ExpRefIdeal.τ).loc Cert.ExpRefIdeal.main_arg2) = m ((c.tc : Thread Cert.ExpRefIdeal.nD Cert.ExpRefIdeal.τ).loc Cert.ExpRefIdeal.main_arg2)
      ∧ r.2.mem ((c.tc : Thread Cert.ExpRefIdeal.nD Cert.ExpRefIdeal.τ).loc Cert.ExpRefIdeal.main_arg3) = m ((c.tc : Thread Cert.ExpRefIdeal.nD Cert.ExpRefIdeal.τ).loc Cert.ExpRefIdeal.main_arg3)
      ∧ r.2.mem ((c.tc : Thread Cert.ExpRefIdeal.nD Cert.ExpRefIdeal.τ).loc Cert.ExpRefIdeal.main_arg4) = m ((c.tc : Thread Cert.ExpRefIdeal.nD Cert.ExpRefIdeal.τ).loc Cert.ExpRefIdeal.main_arg4)
      ∧ r.2.mem ((c.tc : Thread Cert.ExpRefIdeal.nD Cert.ExpRefIdeal.τ).loc Cert.ExpRefIdeal.main_arg5) = m ((c.tc : Thread Cert.ExpRefIdeal.nD Cert.ExpRefIdeal.τ).loc Cert.ExpRefIdeal.main_arg5))
      ∧ r.2.sem = fun _ => 0)

def quiescent_ExpRefIdeal_pre_exp_ranges [hExpRefIdeal : Cert.ExpRefIdeal.Facts] [hPre_exp_ranges : Cert.Pre_exp_ranges.Facts] : Prop :=
  ∀ (m : (ℓ : Loc Cert.ExpRefIdeal.nD Cert.ExpRefIdeal.τ Cert.ExpRefIdeal.sig) → Buf (Elt Ideal) ℓ) (g : Dev Cert.ExpRefIdeal.nD → PrngReg), Pre_ExpRefIdeal_exp_ranges m →
    θ_run (Cert.ExpRefIdeal.defs (F := Ideal)) (onTc (τ := Cert.ExpRefIdeal.τ) (Cert.ExpRefIdeal.main (F := Ideal))) ⟨m, fun _ => 0, g⟩ (fun r => (∀ c : Dev Cert.ExpRefIdeal.nD,
      r.2.mem ((c.tc : Thread Cert.ExpRefIdeal.nD Cert.ExpRefIdeal.τ).loc Cert.ExpRefIdeal.main_arg0) = m ((c.tc : Thread Cert.ExpRefIdeal.nD Cert.ExpRefIdeal.τ).loc Cert.ExpRefIdeal.main_arg0)
      ∧ r.2.mem ((c.tc : Thread Cert.ExpRefIdeal.nD Cert.ExpRefIdeal.τ).loc Cert.ExpRefIdeal.main_arg1) = m ((c.tc : Thread Cert.ExpRefIdeal.nD Cert.ExpRefIdeal.τ).loc Cert.ExpRefIdeal.main_arg1)
      ∧ r.2.mem ((c.tc : Thread Cert.ExpRefIdeal.nD Cert.ExpRefIdeal.τ).loc Cert.ExpRefIdeal.main_arg2) = m ((c.tc : Thread Cert.ExpRefIdeal.nD Cert.ExpRefIdeal.τ).loc Cert.ExpRefIdeal.main_arg2)
      ∧ r.2.mem ((c.tc : Thread Cert.ExpRefIdeal.nD Cert.ExpRefIdeal.τ).loc Cert.ExpRefIdeal.main_arg3) = m ((c.tc : Thread Cert.ExpRefIdeal.nD Cert.ExpRefIdeal.τ).loc Cert.ExpRefIdeal.main_arg3)
      ∧ r.2.mem ((c.tc : Thread Cert.ExpRefIdeal.nD Cert.ExpRefIdeal.τ).loc Cert.ExpRefIdeal.main_arg4) = m ((c.tc : Thread Cert.ExpRefIdeal.nD Cert.ExpRefIdeal.τ).loc Cert.ExpRefIdeal.main_arg4)
      ∧ r.2.mem ((c.tc : Thread Cert.ExpRefIdeal.nD Cert.ExpRefIdeal.τ).loc Cert.ExpRefIdeal.main_arg5) = m ((c.tc : Thread Cert.ExpRefIdeal.nD Cert.ExpRefIdeal.τ).loc Cert.ExpRefIdeal.main_arg5))
      ∧ r.2.sem = fun _ => 0)

def preserves_Na_NaIdeal : Prop :=
  True

def algebraic_NaIdeal_NaRefIdeal_pre_na_finite [hNaIdeal : Cert.NaIdeal.Facts] [hNaRefIdeal : Cert.NaRefIdeal.Facts] [hPre_na_finite : Cert.Pre_na_finite.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.NaRefIdeal.nD Cert.NaRefIdeal.τ Cert.NaRefIdeal.sig) → Buf (Elt Ideal) ℓ) (g' : Dev Cert.NaRefIdeal.nD → PrngReg), Pre_NaIdeal_na_finite m →
    (∀ c : Dev Cert.NaIdeal.nD,
      m' ((c.tc : Thread Cert.NaRefIdeal.nD Cert.NaRefIdeal.τ).loc Cert.NaRefIdeal.main_arg0) = m ((c.tc : Thread Cert.NaIdeal.nD Cert.NaIdeal.τ).loc Cert.NaIdeal.main_arg0)
      ∧ m' ((c.tc : Thread Cert.NaRefIdeal.nD Cert.NaRefIdeal.τ).loc Cert.NaRefIdeal.main_arg1) = m ((c.tc : Thread Cert.NaIdeal.nD Cert.NaIdeal.τ).loc Cert.NaIdeal.main_arg1)
      ∧ m' ((c.tc : Thread Cert.NaRefIdeal.nD Cert.NaRefIdeal.τ).loc Cert.NaRefIdeal.main_arg2) = m ((c.tc : Thread Cert.NaIdeal.nD Cert.NaIdeal.τ).loc Cert.NaIdeal.main_arg2)
      ∧ m' ((c.tc : Thread Cert.NaRefIdeal.nD Cert.NaRefIdeal.τ).loc Cert.NaRefIdeal.main_arg3) = m ((c.tc : Thread Cert.NaIdeal.nD Cert.NaIdeal.τ).loc Cert.NaIdeal.main_arg3)) →
    ∃ (v0 : (c : Dev Cert.NaIdeal.nD) → Buf (Elt Ideal) ((c.tc : Thread Cert.NaIdeal.nD Cert.NaIdeal.τ).loc Cert.NaIdeal.main_v21)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v21) = v0 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
          ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
          ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ θ_run (Cert.NaRefIdeal.defs (F := Ideal)) (onTc (τ := Cert.NaRefIdeal.τ) (Cert.NaRefIdeal.main (F := Ideal))) ⟨m', fun _ => 0, g'⟩ (fun r => ∀ c : Dev Cert.NaRefIdeal.nD,
          r.2.mem ((c.tc : Thread Cert.NaRefIdeal.nD Cert.NaRefIdeal.τ).loc Cert.NaRefIdeal.main_v100) = v0 c
          ∧ r.2.mem ((c.tc : Thread Cert.NaRefIdeal.nD Cert.NaRefIdeal.τ).loc Cert.NaRefIdeal.main_arg0) = m' ((c.tc : Thread Cert.NaRefIdeal.nD Cert.NaRefIdeal.τ).loc Cert.NaRefIdeal.main_arg0)
          ∧ r.2.mem ((c.tc : Thread Cert.NaRefIdeal.nD Cert.NaRefIdeal.τ).loc Cert.NaRefIdeal.main_arg1) = m' ((c.tc : Thread Cert.NaRefIdeal.nD Cert.NaRefIdeal.τ).loc Cert.NaRefIdeal.main_arg1)
          ∧ r.2.mem ((c.tc : Thread Cert.NaRefIdeal.nD Cert.NaRefIdeal.τ).loc Cert.NaRefIdeal.main_arg2) = m' ((c.tc : Thread Cert.NaRefIdeal.nD Cert.NaRefIdeal.τ).loc Cert.NaRefIdeal.main_arg2)
          ∧ r.2.mem ((c.tc : Thread Cert.NaRefIdeal.nD Cert.NaRefIdeal.τ).loc Cert.NaRefIdeal.main_arg3) = m' ((c.tc : Thread Cert.NaRefIdeal.nD Cert.NaRefIdeal.τ).loc Cert.NaRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v12_0)) (v1 : (c : Dev Cert.ProjIdeal.nD) → Buf (Elt Ideal) ((c.tc : Thread Cert.ProjIdeal.nD Cert.ProjIdeal.τ).loc Cert.ProjIdeal.main_v12_1)) (v2 : (c : Dev Cert.ProjIdeal.nD) → Buf (Elt Ideal) ((c.tc : Thread Cert.ProjIdeal.nD Cert.ProjIdeal.τ).loc Cert.ProjIdeal.main_v12_2)) (v3 : (c : Dev Cert.ProjIdeal.nD) → Buf (Elt Ideal) ((c.tc : Thread Cert.ProjIdeal.nD Cert.ProjIdeal.τ).loc Cert.ProjIdeal.main_v12_3)) (v4 : (c : Dev Cert.ProjIdeal.nD) → Buf (Elt Ideal) ((c.tc : Thread Cert.ProjIdeal.nD Cert.ProjIdeal.τ).loc Cert.ProjIdeal.main_v12_4)) (v5 : (c : Dev Cert.ProjIdeal.nD) → Buf (Elt Ideal) ((c.tc : Thread Cert.ProjIdeal.nD Cert.ProjIdeal.τ).loc Cert.ProjIdeal.main_v12_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v12_0) = v0 c
          ∧ r.2.mem ((c.tc : Thread Cert.ProjIdeal.nD Cert.ProjIdeal.τ).loc Cert.ProjIdeal.main_v12_1) = v1 c
          ∧ r.2.mem ((c.tc : Thread Cert.ProjIdeal.nD Cert.ProjIdeal.τ).loc Cert.ProjIdeal.main_v12_2) = v2 c
          ∧ r.2.mem ((c.tc : Thread Cert.ProjIdeal.nD Cert.ProjIdeal.τ).loc Cert.ProjIdeal.main_v12_3) = v3 c
          ∧ r.2.mem ((c.tc : Thread Cert.ProjIdeal.nD Cert.ProjIdeal.τ).loc Cert.ProjIdeal.main_v12_4) = v4 c
          ∧ r.2.mem ((c.tc : Thread Cert.ProjIdeal.nD Cert.ProjIdeal.τ).loc Cert.ProjIdeal.main_v12_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v23) = v0 c
          ∧ r.2.mem ((c.tc : Thread Cert.ProjRefIdeal.nD Cert.ProjRefIdeal.τ).loc Cert.ProjRefIdeal.main_v24) = v1 c
          ∧ r.2.mem ((c.tc : Thread Cert.ProjRefIdeal.nD Cert.ProjRefIdeal.τ).loc Cert.ProjRefIdeal.main_v25) = v2 c
          ∧ r.2.mem ((c.tc : Thread Cert.ProjRefIdeal.nD Cert.ProjRefIdeal.τ).loc Cert.ProjRefIdeal.main_v26) = v3 c
          ∧ r.2.mem ((c.tc : Thread Cert.ProjRefIdeal.nD Cert.ProjRefIdeal.τ).loc Cert.ProjRefIdeal.main_v27) = v4 c
          ∧ r.2.mem ((c.tc : Thread Cert.ProjRefIdeal.nD Cert.ProjRefIdeal.τ).loc Cert.ProjRefIdeal.main_v28) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)
      ∧ m' ((c.tc : Thread Cert.MixRefIdeal.nD Cert.MixRefIdeal.τ).loc Cert.MixRefIdeal.main_arg15) = m ((c.tc : Thread Cert.MixIdeal.nD Cert.MixIdeal.τ).loc Cert.MixIdeal.main_arg15)
      ∧ m' ((c.tc : Thread Cert.MixRefIdeal.nD Cert.MixRefIdeal.τ).loc Cert.MixRefIdeal.main_arg16) = m ((c.tc : Thread Cert.MixIdeal.nD Cert.MixIdeal.τ).loc Cert.MixIdeal.main_arg16)) →
    ∃ (v0 : (c : Dev Cert.MixIdeal.nD) → Buf (Elt Ideal) ((c.tc : Thread Cert.MixIdeal.nD Cert.MixIdeal.τ).loc Cert.MixIdeal.main_v7_0)) (v1 : (c : Dev Cert.MixIdeal.nD) → Buf (Elt Ideal) ((c.tc : Thread Cert.MixIdeal.nD Cert.MixIdeal.τ).loc Cert.MixIdeal.main_v7_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v7_0) = v0 c
          ∧ r.2.mem ((c.tc : Thread Cert.MixIdeal.nD Cert.MixIdeal.τ).loc Cert.MixIdeal.main_v7_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
          ∧ r.2.mem ((c.tc : Thread Cert.MixIdeal.nD Cert.MixIdeal.τ).loc Cert.MixIdeal.main_arg16) = m ((c.tc : Thread Cert.MixIdeal.nD Cert.MixIdeal.τ).loc Cert.MixIdeal.main_arg16))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v58) = v0 c
          ∧ r.2.mem ((c.tc : Thread Cert.MixRefIdeal.nD Cert.MixRefIdeal.τ).loc Cert.MixRefIdeal.main_v76) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15)
          ∧ r.2.mem ((c.tc : Thread Cert.MixRefIdeal.nD Cert.MixRefIdeal.τ).loc Cert.MixRefIdeal.main_arg16) = m' ((c.tc : Thread Cert.MixRefIdeal.nD Cert.MixRefIdeal.τ).loc Cert.MixRefIdeal.main_arg16))

def preserves_Exp_ExpIdeal : Prop :=
  True

def algebraic_ExpIdeal_ExpRefIdeal [hExpIdeal : Cert.ExpIdeal.Facts] [hExpRefIdeal : Cert.ExpRefIdeal.Facts] [hPre_exp_ranges : Cert.Pre_exp_ranges.Facts] : Prop :=
  ∀ (m : (ℓ : Loc Cert.ExpIdeal.nD Cert.ExpIdeal.τ Cert.ExpIdeal.sig) → Buf (Elt Ideal) ℓ) (g : Dev Cert.ExpIdeal.nD → PrngReg)
    (m' : (ℓ : Loc Cert.ExpRefIdeal.nD Cert.ExpRefIdeal.τ Cert.ExpRefIdeal.sig) → Buf (Elt Ideal) ℓ) (g' : Dev Cert.ExpRefIdeal.nD → PrngReg), Pre_ExpIdeal m →
    (∀ c : Dev Cert.ExpIdeal.nD,
      m' ((c.tc : Thread Cert.ExpRefIdeal.nD Cert.ExpRefIdeal.τ).loc Cert.ExpRefIdeal.main_arg0) = m ((c.tc : Thread Cert.ExpIdeal.nD Cert.ExpIdeal.τ).loc Cert.ExpIdeal.main_arg0)
      ∧ m' ((c.tc : Thread Cert.ExpRefIdeal.nD Cert.ExpRefIdeal.τ).loc Cert.ExpRefIdeal.main_arg1) = m ((c.tc : Thread Cert.ExpIdeal.nD Cert.ExpIdeal.τ).loc Cert.ExpIdeal.main_arg1)
      ∧ m' ((c.tc : Thread Cert.ExpRefIdeal.nD Cert.ExpRefIdeal.τ).loc Cert.ExpRefIdeal.main_arg2) = m ((c.tc : Thread Cert.ExpIdeal.nD Cert.ExpIdeal.τ).loc Cert.ExpIdeal.main_arg2)
      ∧ m' ((c.tc : Thread Cert.ExpRefIdeal.nD Cert.ExpRefIdeal.τ).loc Cert.ExpRefIdeal.main_arg3) = m ((c.tc : Thread Cert.ExpIdeal.nD Cert.ExpIdeal.τ).loc Cert.ExpIdeal.main_arg3)
      ∧ m' ((c.tc : Thread Cert.ExpRefIdeal.nD Cert.ExpRefIdeal.τ).loc Cert.ExpRefIdeal.main_arg4) = m ((c.tc : Thread Cert.ExpIdeal.nD Cert.ExpIdeal.τ).loc Cert.ExpIdeal.main_arg4)
      ∧ m' ((c.tc : Thread Cert.ExpRefIdeal.nD Cert.ExpRefIdeal.τ).loc Cert.ExpRefIdeal.main_arg5) = m ((c.tc : Thread Cert.ExpIdeal.nD Cert.ExpIdeal.τ).loc Cert.ExpIdeal.main_arg5)) →
    ∃ (v0 : (c : Dev Cert.ExpIdeal.nD) → Buf (Elt Ideal) ((c.tc : Thread Cert.ExpIdeal.nD Cert.ExpIdeal.τ).loc Cert.ExpIdeal.main_v3)),
      θ_run (Cert.ExpIdeal.defs (F := Ideal)) (onTc (τ := Cert.ExpIdeal.τ) (Cert.ExpIdeal.main (F := Ideal))) ⟨m, fun _ => 0, g⟩ (fun r => ∀ c : Dev Cert.ExpIdeal.nD,
          r.2.mem ((c.tc : Thread Cert.ExpIdeal.nD Cert.ExpIdeal.τ).loc Cert.ExpIdeal.main_v3) = v0 c
          ∧ r.2.mem ((c.tc : Thread Cert.ExpIdeal.nD Cert.ExpIdeal.τ).loc Cert.ExpIdeal.main_arg0) = m ((c.tc : Thread Cert.ExpIdeal.nD Cert.ExpIdeal.τ).loc Cert.ExpIdeal.main_arg0)
          ∧ r.2.mem ((c.tc : Thread Cert.ExpIdeal.nD Cert.ExpIdeal.τ).loc Cert.ExpIdeal.main_arg1) = m ((c.tc : Thread Cert.ExpIdeal.nD Cert.ExpIdeal.τ).loc Cert.ExpIdeal.main_arg1)
          ∧ r.2.mem ((c.tc : Thread Cert.ExpIdeal.nD Cert.ExpIdeal.τ).loc Cert.ExpIdeal.main_arg2) = m ((c.tc : Thread Cert.ExpIdeal.nD Cert.ExpIdeal.τ).loc Cert.ExpIdeal.main_arg2)
          ∧ r.2.mem ((c.tc : Thread Cert.ExpIdeal.nD Cert.ExpIdeal.τ).loc Cert.ExpIdeal.main_arg3) = m ((c.tc : Thread Cert.ExpIdeal.nD Cert.ExpIdeal.τ).loc Cert.ExpIdeal.main_arg3)
          ∧ r.2.mem ((c.tc : Thread Cert.ExpIdeal.nD Cert.ExpIdeal.τ).loc Cert.ExpIdeal.main_arg4) = m ((c.tc : Thread Cert.ExpIdeal.nD Cert.ExpIdeal.τ).loc Cert.ExpIdeal.main_arg4)
          ∧ r.2.mem ((c.tc : Thread Cert.ExpIdeal.nD Cert.ExpIdeal.τ).loc Cert.ExpIdeal.main_arg5) = m ((c.tc : Thread Cert.ExpIdeal.nD Cert.ExpIdeal.τ).loc Cert.ExpIdeal.main_arg5))
      ∧ θ_run (Cert.ExpRefIdeal.defs (F := Ideal)) (onTc (τ := Cert.ExpRefIdeal.τ) (Cert.ExpRefIdeal.main (F := Ideal))) ⟨m', fun _ => 0, g'⟩ (fun r => ∀ c : Dev Cert.ExpRefIdeal.nD,
          r.2.mem ((c.tc : Thread Cert.ExpRefIdeal.nD Cert.ExpRefIdeal.τ).loc Cert.ExpRefIdeal.main_v33) = v0 c
          ∧ r.2.mem ((c.tc : Thread Cert.ExpRefIdeal.nD Cert.ExpRefIdeal.τ).loc Cert.ExpRefIdeal.main_arg0) = m' ((c.tc : Thread Cert.ExpRefIdeal.nD Cert.ExpRefIdeal.τ).loc Cert.ExpRefIdeal.main_arg0)
          ∧ r.2.mem ((c.tc : Thread Cert.ExpRefIdeal.nD Cert.ExpRefIdeal.τ).loc Cert.ExpRefIdeal.main_arg1) = m' ((c.tc : Thread Cert.ExpRefIdeal.nD Cert.ExpRefIdeal.τ).loc Cert.ExpRefIdeal.main_arg1)
          ∧ r.2.mem ((c.tc : Thread Cert.ExpRefIdeal.nD Cert.ExpRefIdeal.τ).loc Cert.ExpRefIdeal.main_arg2) = m' ((c.tc : Thread Cert.ExpRefIdeal.nD Cert.ExpRefIdeal.τ).loc Cert.ExpRefIdeal.main_arg2)
          ∧ r.2.mem ((c.tc : Thread Cert.ExpRefIdeal.nD Cert.ExpRefIdeal.τ).loc Cert.ExpRefIdeal.main_arg3) = m' ((c.tc : Thread Cert.ExpRefIdeal.nD Cert.ExpRefIdeal.τ).loc Cert.ExpRefIdeal.main_arg3)
          ∧ r.2.mem ((c.tc : Thread Cert.ExpRefIdeal.nD Cert.ExpRefIdeal.τ).loc Cert.ExpRefIdeal.main_arg4) = m' ((c.tc : Thread Cert.ExpRefIdeal.nD Cert.ExpRefIdeal.τ).loc Cert.ExpRefIdeal.main_arg4)
          ∧ r.2.mem ((c.tc : Thread Cert.ExpRefIdeal.nD Cert.ExpRefIdeal.τ).loc Cert.ExpRefIdeal.main_arg5) = m' ((c.tc : Thread Cert.ExpRefIdeal.nD Cert.ExpRefIdeal.τ).loc Cert.ExpRefIdeal.main_arg5))

def Claim : Prop :=
  ∃ (hNa : Cert.Na.Facts) (hNaIdeal : Cert.NaIdeal.Facts) (hNaRefIdeal : Cert.NaRefIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hExp : Cert.Exp.Facts) (hExpIdeal : Cert.ExpIdeal.Facts) (hExpRefIdeal : Cert.ExpRefIdeal.Facts) (hPre_na_finite : Cert.Pre_na_finite.Facts) (hPre_exp_ranges : Cert.Pre_exp_ranges.Facts),
    quiescent_Na (hNa := hNa)
    ∧ quiescent_NaIdeal (hNaIdeal := hNaIdeal)
    ∧ quiescent_NaIdeal_pre_na_finite (hNaIdeal := hNaIdeal) (hPre_na_finite := hPre_na_finite)
    ∧ quiescent_NaRefIdeal (hNaRefIdeal := hNaRefIdeal)
    ∧ quiescent_NaRefIdeal_pre_na_finite (hNaRefIdeal := hNaRefIdeal) (hPre_na_finite := hPre_na_finite)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ quiescent_Exp (hExp := hExp) (hPre_exp_ranges := hPre_exp_ranges)
    ∧ quiescent_ExpIdeal (hExpIdeal := hExpIdeal) (hPre_exp_ranges := hPre_exp_ranges)
    ∧ quiescent_ExpRefIdeal (hExpRefIdeal := hExpRefIdeal)
    ∧ quiescent_ExpRefIdeal_pre_exp_ranges (hExpRefIdeal := hExpRefIdeal) (hPre_exp_ranges := hPre_exp_ranges)
    ∧ preserves_Na_NaIdeal
    ∧ algebraic_NaIdeal_NaRefIdeal_pre_na_finite (hNaIdeal := hNaIdeal) (hNaRefIdeal := hNaRefIdeal) (hPre_na_finite := hPre_na_finite)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal (hMixIdeal := hMixIdeal) (hMixRefIdeal := hMixRefIdeal)
    ∧ preserves_Exp_ExpIdeal
    ∧ algebraic_ExpIdeal_ExpRefIdeal (hExpIdeal := hExpIdeal) (hExpRefIdeal := hExpRefIdeal) (hPre_exp_ranges := hPre_exp_ranges)
-- ==== Pre_exp_ranges.lean ====
abbrev S1152 : Shape := ⟨1, ![1152]⟩
abbrev S1 : Shape := ⟨1, ![1]⟩
abbrev S294912x1024 : Shape := ⟨2, ![294912, 1024]⟩
abbrev S64x1024x256 : Shape := ⟨3, ![64, 1024, 256]⟩
abbrev S64x256x1024 : Shape := ⟨3, ![64, 256, 1024]⟩
abbrev S_ : Shape := ⟨0, ![]⟩

class Facts : Prop where
  bcast_S_S1152 : S_.BroadcastsInDim S1152 (![] : Fin 0 → Fin S1152.rank)
  reducesTo_S1152_S_d0 : S1152.ReducesTo [0] S_
  h_S_ : 0 < S_.numel
  shapeCasts_S1_S_ : S1.ShapeCasts S_

variable [Facts]

def fn {F : FTy → Type} [FloatOps F] (main_arg0 : IVec S1152 32) (main_arg1 : IVec S1 32) (main_arg2 : FVec F S294912x1024 .f32) (main_arg3 : FVec F S64x1024x256 .f32) (main_arg4 : FVec F S64x1024x256 .f32) (main_arg5 : FVec F S64x256x1024 .f32) : IVec S_ 1 :=
  let main_c : IVec S_ 32 := constantI S_ 32 0#32
  let main_v0 : IVec S1152 32 := broadcastInDim S1152 ![] bcast_S_S1152 main_c
  let main_v1 : IVec S1152 1 := cmpi .sge main_arg0 main_v0
  let main_c_0 : IVec S_ 32 := constantI S_ 32 64#32
  let main_v2 : IVec S1152 32 := broadcastInDim S1152 ![] bcast_S_S1152 main_c_0
  let main_v3 : IVec S1152 1 := cmpi .slt main_arg0 main_v2
  let main_v4 : IVec S1152 1 := andi main_v1 main_v3
  let main_c_1 : IVec S_ 1 := constantI S_ 1 1#1
  let main_v5 : IVec S_ 1 := (fun x v => Host.reduce IntOp.andi x v reducesTo_S1152_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Pre_na_finite.lean ====
abbrev S34816x512 : Shape := ⟨2, ![34816, 512]⟩
abbrev S8x15x31 : Shape := ⟨3, ![8, 15, 31]⟩
abbrev S_ : Shape := ⟨0, ![]⟩

class Facts : Prop where
  bitsLt_bf16_f32 : FTy.bits .bf16 < FTy.bits .f32
  bcast_S_S34816x512 : S_.BroadcastsInDim S34816x512 (![] : Fin 0 → Fin S34816x512.rank)
  reducesTo_S34816x512_S_d0_1 : S34816x512.ReducesTo [0, 1] S_
  h_S_ : 0 < S_.numel
  bcast_S_S8x15x31 : S_.BroadcastsInDim S8x15x31 (![] : Fin 0 → Fin S8x15x31.rank)
  reducesTo_S8x15x31_S_d0_1_2 : S8x15x31.ReducesTo [0, 1, 2] S_

variable [Facts]

def fn {F : FTy → Type} [FloatOps F] (main_arg0 : FVec F S34816x512 .bf16) (main_arg1 : FVec F S34816x512 .bf16) (main_arg2 : FVec F S34816x512 .bf16) (main_arg3 : FVec F S8x15x31 .f32) : IVec S_ 1 :=
  let main_v0 : FVec F S34816x512 .f32 := (extf .f32 · bitsLt_bf16_f32) main_arg0
  let main_v1 : FVec F S34816x512 .f32 := Host.absf main_v0
  let main_cst : FVec F S_ .f32 := constant S_ .f32 0x7F800000#32
  let main_v2 : FVec F S34816x512 .f32 := broadcastInDim S34816x512 ![] bcast_S_S34816x512 main_cst
  let main_v3 : IVec S34816x512 1 := cmpf .olt main_v1 main_v2
  let main_c : IVec S_ 1 := constantI S_ 1 1#1
  let main_v4 : IVec S_ 1 := (fun x v => Host.reduce IntOp.andi x v reducesTo_S34816x512_S_d0_1 h_S_) main_v3 main_c
  let main_v5 : FVec F S34816x512 .f32 := (extf .f32 · bitsLt_bf16_f32) main_arg1
  let main_v6 : FVec F S34816x512 .f32 := Host.absf main_v5
  let main_cst_0 : FVec F S_ .f32 := constant S_ .f32 0x7F800000#32
  let main_v7 : FVec F S34816x512 .f32 := broadcastInDim S34816x512 ![] bcast_S_S34816x512 main_cst_0
  let main_v8 : IVec S34816x512 1 := cmpf .olt main_v6 main_v7
  let main_c_1 : IVec S_ 1 := constantI S_ 1 1#1
  let main_v9 : IVec S_ 1 := (fun x v => Host.reduce IntOp.andi x v reducesTo_S34816x512_S_d0_1 h_S_) main_v8 main_c_1
  let main_v10 : IVec S_ 1 := andi main_v4 main_v9
  let main_v11 : FVec F S8x15x31 .f32 := Host.absf main_arg3
  let main_cst_2 : FVec F S_ .f32 := constant S_ .f32 0x7F800000#32
  let main_v12 : FVec F S8x15x31 .f32 := broadcastInDim S8x15x31 ![] bcast_S_S8x15x31 main_cst_2
  let main_v13 : IVec S8x15x31 1 := cmpf .olt main_v11 main_v12
  let main_c_3 : IVec S_ 1 := constantI S_ 1 1#1
  let main_v14 : IVec S_ 1 := (fun x v => Host.reduce IntOp.andi x v reducesTo_S8x15x31_S_d0_1_2 h_S_) main_v13 main_c_3
  let main_v15 : IVec S_ 1 := andi main_v10 main_v14
  main_v15
-- ==== Na.lean ====
abbrev S34816x512 : Shape := ⟨2, ![34816, 512]⟩
abbrev S8x15x31 : Shape := ⟨3, ![8, 15, 31]⟩
abbrev S3x4x11 : Shape := ⟨3, ![3, 4, 11]⟩
abbrev S64x64 : Shape := ⟨2, ![64, 64]⟩
abbrev S3x4x1x11x1 : Shape := ⟨5, ![3, 4, 1, 11, 1]⟩
abbrev S1x1x64x1x64 : Shape := ⟨5, ![1, 1, 64, 1, 64]⟩
abbrev S3x4x64x11x64 : Shape := ⟨5, ![3, 4, 64, 11, 64]⟩
abbrev S3x256x704 : Shape := ⟨3, ![3, 256, 704]⟩
abbrev S_ : Shape := ⟨0, ![]⟩
abbrev S64x64x1 : Shape := ⟨3, ![64, 64, 1]⟩
abbrev S8x15x64x64 : Shape := ⟨4, ![8, 15, 64, 64]⟩
abbrev S3x4x11x1 : Shape := ⟨4, ![3, 4, 11, 1]⟩
abbrev S8x3x4x11x64x64 : Shape := ⟨6, ![8, 3, 4, 11, 64, 64]⟩
abbrev S3x8x4x64x11x64 : Shape := ⟨6, ![3, 8, 4, 64, 11, 64]⟩
abbrev S3x8x256x704 : Shape := ⟨4, ![3, 8, 256, 704]⟩
abbrev S3x1x256x704 : Shape := ⟨4, ![3, 1, 256, 704]⟩
abbrev S256x512 : Shape := ⟨2, ![256, 512]⟩
abbrev S4096x512 : Shape := ⟨2, ![4096, 512]⟩
abbrev S1x8x256x704 : Shape := ⟨4, ![1, 8, 256, 704]⟩
abbrev S256x64 : Shape := ⟨2, ![256, 64]⟩
abbrev S704x64 : Shape := ⟨2, ![704, 64]⟩
abbrev S256x704 : Shape := ⟨2, ![256, 704]⟩
abbrev S1x1x256x704 : Shape := ⟨4, ![1, 1, 256, 704]⟩
abbrev S256x256 : Shape := ⟨2, ![256, 256]⟩
abbrev S256 : Shape := ⟨1, ![256]⟩
abbrev S256x1 : Shape := ⟨2, ![256, 1]⟩

abbrev nBuf : Space → Nat
  | .hbm => 39
  | .vmem => 14
  | .smem => 0
  | _ => 0

abbrev bufTy : (tb : Table) → Fin (tcTables nBuf tb) → BufTy
  | .hbm, ⟨0, _⟩ => ⟨S34816x512, .bf16⟩
  | .hbm, ⟨1, _⟩ => ⟨S34816x512, .bf16⟩
  | .hbm, ⟨2, _⟩ => ⟨S34816x512, .bf16⟩
  | .hbm, ⟨3, _⟩ => ⟨S8x15x31, .f32⟩
  | .hbm, ⟨4, _⟩ => ⟨S3x4x11, .i1⟩
  | .hbm, ⟨5, _⟩ => ⟨S64x64, .i1⟩
  | .hbm, ⟨6, _⟩ => ⟨S64x64, .i32⟩
  | .hbm, ⟨7, _⟩ => ⟨S64x64, .i1⟩
  | .hbm, ⟨8, _⟩ => ⟨S3x4x11, .i32⟩
  | .hbm, ⟨9, _⟩ => ⟨S3x4x11, .i1⟩
  | .hbm, ⟨10, _⟩ => ⟨S3x4x1x11x1, .i1⟩
  | .hbm, ⟨11, _⟩ => ⟨S1x1x64x1x64, .i1⟩
  | .hbm, ⟨12, _⟩ => ⟨S3x4x64x11x64, .i1⟩
  | .hbm, ⟨13, _⟩ => ⟨S3x4x64x11x64, .i1⟩
  | .hbm, ⟨14, _⟩ => ⟨S3x4x64x11x64, .i1⟩
  | .hbm, ⟨15, _⟩ => ⟨S3x256x704, .i1⟩
  | .hbm, ⟨16, _⟩ => ⟨S_, .i32⟩
  | .hbm, ⟨17, _⟩ => ⟨S64x64, .i32⟩
  | .hbm, ⟨18, _⟩ => ⟨S64x64, .i32⟩
  | .hbm, ⟨19, _⟩ => ⟨S64x64, .i32⟩
  | .hbm, ⟨20, _⟩ => ⟨S64x64x1, .i32⟩
  | .hbm, ⟨21, _⟩ => ⟨S8x15x64x64, .f32⟩
  | .hbm, ⟨22, _⟩ => ⟨S_, .i32⟩
  | .hbm, ⟨23, _⟩ => ⟨S3x4x11, .i32⟩
  | .hbm, ⟨24, _⟩ => ⟨S3x4x11, .i32⟩
  | .hbm, ⟨25, _⟩ => ⟨S3x4x11, .i32⟩
  | .hbm, ⟨26, _⟩ => ⟨S3x4x11x1, .i32⟩
  | .hbm, ⟨27, _⟩ => ⟨S8x3x4x11x64x64, .f32⟩
  | .hbm, ⟨28, _⟩ => ⟨S3x8x4x64x11x64, .f32⟩
  | .hbm, ⟨29, _⟩ => ⟨S3x8x256x704, .f32⟩
  | .hbm, ⟨30, _⟩ => ⟨S3x1x256x704, .i1⟩
  | .hbm, ⟨31, _⟩ => ⟨S_, .f32⟩
  | .hbm, ⟨32, _⟩ => ⟨S_, .f32⟩
  | .hbm, ⟨33, _⟩ => ⟨S3x8x256x704, .i1⟩
  | .hbm, ⟨34, _⟩ => ⟨S3x8x256x704, .f32⟩
  | .hbm, ⟨35, _⟩ => ⟨S3x8x256x704, .f32⟩
  | .hbm, ⟨36, _⟩ => ⟨S_, .bf16⟩
  | .hbm, ⟨37, _⟩ => ⟨S34816x512, .bf16⟩
  | .hbm, ⟨38, _⟩ => ⟨S34816x512, .bf16⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S1x8x256x704, .f32⟩
  | .local _ .vmem, ⟨11, _⟩ => ⟨S1x8x256x704, .f32⟩
  | .local _ .vmem, ⟨12, _⟩ => ⟨S256x512, .bf16⟩
  | .local _ .vmem, ⟨13, _⟩ => ⟨S256x512, .bf16⟩
  | _, _ => ⟨S34816x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c53_i32 : BitVec 32 := 53#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c53_i32 v2
  let c64_i32 : BitVec 32 := 64#32
  let v4 : BitVec 32 := Scalar.muli v3 c64_i32
  v4
def k0_off1 (i : grid0.Coords) : Fin 2 → Nat :=
  let c53_i32 : BitVec 32 := 53#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c53_i32 v2
  let c64_i32 : BitVec 32 := 64#32
  let v4 : BitVec 32 := Scalar.muli v3 c64_i32
  let v5 : BitVec 32 := v4
  let v7 : Index := Scalar.indexCast v5
  let c0_2 : Index := 0#32
  ![v7.toNat, 0]
def k0_off2 (i : grid0.Coords) : Fin 2 → Nat :=
  let c53_i32 : BitVec 32 := 53#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c53_i32 v2
  let c64_i32 : BitVec 32 := 64#32
  let v4 : BitVec 32 := Scalar.muli v3 c64_i32
  let v5 : BitVec 32 := v4
  let v48 : Index := Scalar.indexCast v5
  let c64_24 : Index := 64#32
  ![v48.toNat, 64]
def k0_off3 (i : grid0.Coords) : Fin 2 → Nat :=
  let c53_i32 : BitVec 32 := 53#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c53_i32 v2
  let c64_i32 : BitVec 32 := 64#32
  let v4 : BitVec 32 := Scalar.muli v3 c64_i32
  let v5 : BitVec 32 := v4
  let v89 : Index := Scalar.indexCast v5
  let c128_46 : Index := 128#32
  ![v89.toNat, 128]
def k0_off4 (i : grid0.Coords) : Fin 2 → Nat :=
  let c53_i32 : BitVec 32 := 53#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c53_i32 v2
  let c64_i32 : BitVec 32 := 64#32
  let v4 : BitVec 32 := Scalar.muli v3 c64_i32
  let v5 : BitVec 32 := v4
  let v130 : Index := Scalar.indexCast v5
  let c192_68 : Index := 192#32
  ![v130.toNat, 192]
def k0_off5 (i : grid0.Coords) : Fin 2 → Nat :=
  let c53_i32 : BitVec 32 := 53#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c53_i32 v2
  let c64_i32 : BitVec 32 := 64#32
  let v4 : BitVec 32 := Scalar.muli v3 c64_i32
  let v5 : BitVec 32 := v4
  let v171 : Index := Scalar.indexCast v5
  let c256_90 : Index := 256#32
  ![v171.toNat, 256]
def k0_off6 (i : grid0.Coords) : Fin 2 → Nat :=
  let c53_i32 : BitVec 32 := 53#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c53_i32 v2
  let c64_i32 : BitVec 32 := 64#32
  let v4 : BitVec 32 := Scalar.muli v3 c64_i32
  let v5 : BitVec 32 := v4
  let v212 : Index := Scalar.indexCast v5
  let c320_112 : Index := 320#32
  ![v212.toNat, 320]
def k0_off7 (i : grid0.Coords) : Fin 2 → Nat :=
  let c53_i32 : BitVec 32 := 53#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c53_i32 v2
  let c64_i32 : BitVec 32 := 64#32
  let v4 : BitVec 32 := Scalar.muli v3 c64_i32
  let v5 : BitVec 32 := v4
  let v253 : Index := Scalar.indexCast v5
  let c384_134 : Index := 384#32
  ![v253.toNat, 384]
def k0_off8 (i : grid0.Coords) : Fin 2 → Nat :=
  let c53_i32 : BitVec 32 := 53#32
  let c0_i32 : BitVec 32 := 0#32
  let c4_i32 : BitVec 32 := 4#32
  let arg1 : BitVec 32 := BitVec.ofNat 32 (i 1).val
  let v0 : BitVec 32 := Scalar.muli c4_i32 arg1
  let c4_i32_0 : BitVec 32 := 4#32
  let v1 : BitVec 32 := Scalar.subi v0 c4_i32_0
  let v2 : BitVec 32 := Scalar.maxsi c0_i32 v1
  let v3 : BitVec 32 := Scalar.minsi c53_i32 v2
  let c64_i32 : BitVec 32 := 64#32
  let v4 : BitVec 32 := Scalar.muli v3 c64_i32
  let v5 : BitVec 32 := v4
  let v294 : Index := Scalar.indexCast v5
  let c448_156 : Index := 448#32
  ![v294.toNat, 448]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c15_i32 : BitVec 32 := 15#32
  let v1 : BitVec 1 := Scalar.cmpi .eq arg1 c15_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  let c0_i32_4 : BitVec 32 := 0#32
  ![v3.toNat, c0_i32_1.toNat, c0_i32_2.toNat, c0_i32_3.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== NaRefIdeal.lean ====
abbrev S34816x512 : Shape := ⟨2, ![34816, 512]⟩
abbrev S8x15x31 : Shape := ⟨3, ![8, 15, 31]⟩
abbrev S64x8 : Shape := ⟨2, ![64, 8]⟩
abbrev S4x32 : Shape := ⟨2, ![4, 32]⟩
abbrev S4x16x32 : Shape := ⟨3, ![4, 16, 32]⟩
abbrev S32768x512 : Shape := ⟨2, ![32768, 512]⟩
abbrev S8x4096x512 : Shape := ⟨3, ![8, 4096, 512]⟩
abbrev S8x4096x8x64 : Shape := ⟨4, ![8, 4096, 8, 64]⟩
abbrev S8x8x4096x64 : Shape := ⟨4, ![8, 8, 4096, 64]⟩
abbrev S8x8x64x64x64 : Shape := ⟨5, ![8, 8, 64, 64, 64]⟩
abbrev S8x8x64x4x16x64 : Shape := ⟨6, ![8, 8, 64, 4, 16, 64]⟩
abbrev S_ : Shape := ⟨0, ![]⟩
abbrev S64x8x1 : Shape := ⟨3, ![64, 8, 1]⟩
abbrev S8x8x64x8x64x64 : Shape := ⟨6, ![8, 8, 64, 8, 64, 64]⟩
abbrev S4x32x1 : Shape := ⟨3, ![4, 32, 1]⟩
abbrev S8x8x64x8x4x32x64 : Shape := ⟨7, ![8, 8, 64, 8, 4, 32, 64]⟩
abbrev S8x8x64x4x8x32x64 : Shape := ⟨7, ![8, 8, 64, 4, 8, 32, 64]⟩
abbrev S8x8x64x4x256x64 : Shape := ⟨6, ![8, 8, 64, 4, 256, 64]⟩
abbrev S2048x512 : Shape := ⟨2, ![2048, 512]⟩
abbrev S8x256x512 : Shape := ⟨3, ![8, 256, 512]⟩
abbrev S8x256x8x64 : Shape := ⟨4, ![8, 256, 8, 64]⟩
abbrev S8x8x256x64 : Shape := ⟨4, ![8, 8, 256, 64]⟩
abbrev S4x16x32x1 : Shape := ⟨4, ![4, 16, 32, 1]⟩
abbrev S8x15x4x16x32 : Shape := ⟨5, ![8, 15, 4, 16, 32]⟩
abbrev S8x64x8x4x16x32 : Shape := ⟨6, ![8, 64, 8, 4, 16, 32]⟩
abbrev S8x64x4x16x8x32 : Shape := ⟨6, ![8, 64, 4, 16, 8, 32]⟩
abbrev S8x64x4x16x256 : Shape := ⟨5, ![8, 64, 4, 16, 256]⟩
abbrev S4x16x1x32 : Shape := ⟨4, ![4, 16, 1, 32]⟩
abbrev S4x16x8x32 : Shape := ⟨4, ![4, 16, 8, 32]⟩
abbrev S4x16x256 : Shape := ⟨3, ![4, 16, 256]⟩
abbrev S8x8x64x4x16x256 : Shape := ⟨6, ![8, 8, 64, 4, 16, 256]⟩
abbrev S1x8x64x4x16x256 : Shape := ⟨6, ![1, 8, 64, 4, 16, 256]⟩
abbrev S8x8x64x4x16x512 : Shape := ⟨6, ![8, 8, 64, 4, 16, 512]⟩
abbrev S8x8x64x4x16 : Shape := ⟨5, ![8, 8, 64, 4, 16]⟩
abbrev S8x8x64x4x16x1 : Shape := ⟨6, ![8, 8, 64, 4, 16, 1]⟩

abbrev nBuf : Space → Nat
  | .hbm => 132
  | .vmem => 0
  | .smem => 0
  | _ => 0

abbrev hbmTy0_0 (i : Nat) : BufTy := match i % 128 with
  | 0 => ⟨S34816x512, .bf16⟩
  | 1 => ⟨S34816x512, .bf16⟩
  | 2 => ⟨S34816x512, .bf16⟩
  | 3 => ⟨S8x15x31, .f32⟩
  | 4 => ⟨S64x8, .i32⟩
  | 5 => ⟨S64x8, .i1⟩
  | 6 => ⟨S4x32, .i32⟩
  | 7 => ⟨S4x32, .i1⟩
  | 8 => ⟨S64x8, .i1⟩
  | 9 => ⟨S4x32, .i1⟩
  | 10 => ⟨S4x16x32, .i32⟩
  | 11 => ⟨S4x16x32, .i1⟩
  | 12 => ⟨S64x8, .i32⟩
  | 13 => ⟨S64x8, .i1⟩
  | 14 => ⟨S4x16x32, .i1⟩
  | 15 => ⟨S34816x512, .f32⟩
  | 16 => ⟨S32768x512, .f32⟩
  | 17 => ⟨S8x4096x512, .f32⟩
  | 18 => ⟨S8x4096x8x64, .f32⟩
  | 19 => ⟨S8x8x4096x64, .f32⟩
  | 20 => ⟨S8x8x64x64x64, .f32⟩
  | 21 => ⟨S8x8x64x4x16x64, .f32⟩
  | 22 => ⟨S34816x512, .f32⟩
  | 23 => ⟨S32768x512, .f32⟩
  | 24 => ⟨S8x4096x512, .f32⟩
  | 25 => ⟨S8x4096x8x64, .f32⟩
  | 26 => ⟨S8x8x4096x64, .f32⟩
  | 27 => ⟨S8x8x64x64x64, .f32⟩
  | 28 => ⟨S_, .i32⟩
  | 29 => ⟨S64x8, .i32⟩
  | 30 => ⟨S64x8, .i32⟩
  | 31 => ⟨S64x8, .i32⟩
  | 32 => ⟨S64x8x1, .i32⟩
  | 33 => ⟨S8x8x64x8x64x64, .f32⟩
  | 34 => ⟨S_, .i32⟩
  | 35 => ⟨S4x32, .i32⟩
  | 36 => ⟨S4x32, .i32⟩
  | 37 => ⟨S4x32, .i32⟩
  | 38 => ⟨S4x32x1, .i32⟩
  | 39 => ⟨S8x8x64x8x4x32x64, .f32⟩
  | 40 => ⟨S8x8x64x4x8x32x64, .f32⟩
  | 41 => ⟨S8x8x64x4x256x64, .f32⟩
  | 42 => ⟨S34816x512, .f32⟩
  | 43 => ⟨S32768x512, .f32⟩
  | 44 => ⟨S8x4096x512, .f32⟩
  | 45 => ⟨S8x4096x8x64, .f32⟩
  | 46 => ⟨S8x8x4096x64, .f32⟩
  | 47 => ⟨S8x8x64x64x64, .f32⟩
  | 48 => ⟨S_, .i32⟩
  | 49 => ⟨S64x8, .i32⟩
  | 50 => ⟨S64x8, .i32⟩
  | 51 => ⟨S64x8, .i32⟩
  | 52 => ⟨S64x8x1, .i32⟩
  | 53 => ⟨S8x8x64x8x64x64, .f32⟩
  | 54 => ⟨S_, .i32⟩
  | 55 => ⟨S4x32, .i32⟩
  | 56 => ⟨S4x32, .i32⟩
  | 57 => ⟨S4x32, .i32⟩
  | 58 => ⟨S4x32x1, .i32⟩
  | 59 => ⟨S8x8x64x8x4x32x64, .f32⟩
  | 60 => ⟨S8x8x64x4x8x32x64, .f32⟩
  | 61 => ⟨S8x8x64x4x256x64, .f32⟩
  | 62 => ⟨S34816x512, .f32⟩
  | 63 => ⟨S2048x512, .f32⟩
  | 64 => ⟨S8x256x512, .f32⟩
  | 65 => ⟨S8x256x8x64, .f32⟩
  | 66 => ⟨S8x8x256x64, .f32⟩
  | 67 => ⟨S34816x512, .f32⟩
  | 68 => ⟨S2048x512, .f32⟩
  | 69 => ⟨S8x256x512, .f32⟩
  | 70 => ⟨S8x256x8x64, .f32⟩
  | 71 => ⟨S8x8x256x64, .f32⟩
  | 72 => ⟨S_, .i32⟩
  | 73 => ⟨S4x16x32, .i32⟩
  | 74 => ⟨S4x16x32, .i32⟩
  | 75 => ⟨S4x16x32, .i32⟩
  | 76 => ⟨S4x16x32x1, .i32⟩
  | 77 => ⟨S8x15x4x16x32, .f32⟩
  | 78 => ⟨S_, .i32⟩
  | 79 => ⟨S64x8, .i32⟩
  | 80 => ⟨S64x8, .i32⟩
  | 81 => ⟨S64x8, .i32⟩
  | 82 => ⟨S64x8x1, .i32⟩
  | 83 => ⟨S8x64x8x4x16x32, .f32⟩
  | 84 => ⟨S8x64x4x16x8x32, .f32⟩
  | 85 => ⟨S8x64x4x16x256, .f32⟩
  | 86 => ⟨S4x16x1x32, .i1⟩
  | 87 => ⟨S4x16x8x32, .i1⟩
  | 88 => ⟨S4x16x256, .i1⟩
  | 89 => ⟨S8x8x64x4x16x256, .f32⟩
  | 90 => ⟨S_, .f32⟩
  | 91 => ⟨S8x8x64x4x16x256, .f32⟩
  | 92 => ⟨S8x8x64x4x16x256, .f32⟩
  | 93 => ⟨S1x8x64x4x16x256, .f32⟩
  | 94 => ⟨S8x8x64x4x16x256, .f32⟩
  | 95 => ⟨S8x8x64x4x16x256, .f32⟩
  | 96 => ⟨S_, .f32⟩
  | 97 => ⟨S_, .f32⟩
  | 98 => ⟨S8x8x64x4x16x256, .i1⟩
  | 99 => ⟨S8x8x64x4x16x256, .f32⟩
  | 100 => ⟨S8x8x64x4x16x256, .f32⟩
  | 101 => ⟨S8x8x64x4x16x256, .f32⟩
  | 102 => ⟨S_, .f32⟩
  | 103 => ⟨S8x8x64x4x16x256, .f32⟩
  | 104 => ⟨S8x8x64x4x16x256, .f32⟩
  | 105 => ⟨S8x8x64x4x16x512, .f32⟩
  | 106 => ⟨S_, .f32⟩
  | 107 => ⟨S8x8x64x4x16, .f32⟩
  | 108 => ⟨S_, .f32⟩
  | 109 => ⟨S8x8x64x4x16, .f32⟩
  | 110 => ⟨S8x8x64x4x16, .f32⟩
  | 111 => ⟨S8x8x64x4x16x1, .f32⟩
  | 112 => ⟨S8x8x64x4x16x512, .f32⟩
  | 113 => ⟨S8x8x64x4x16x512, .f32⟩
  | 114 => ⟨S8x8x64x4x16x512, .f32⟩
  | 115 => ⟨S_, .f32⟩
  | 116 => ⟨S8x8x64x4x16, .f32⟩
  | 117 => ⟨S8x8x64x4x16x1, .f32⟩
  | 118 => ⟨S8x8x64x4x16x512, .f32⟩
  | 119 => ⟨S8x8x64x4x16x512, .f32⟩
  | 120 => ⟨S8x8x64x4x16x256, .f32⟩
  | 121 => ⟨S8x8x64x4x16x64, .f32⟩
  | 122 => ⟨S8x8x64x4x16x256, .f32⟩
  | 123 => ⟨S8x8x64x4x16x64, .f32⟩
  | 124 => ⟨S8x8x64x4x16x64, .f32⟩
  | 125 => ⟨S8x8x4096x64, .f32⟩
  | 126 => ⟨S8x4096x8x64, .f32⟩
  | 127 => ⟨S32768x512, .f32⟩
  | _ => ⟨S34816x512, .bf16⟩

abbrev hbmTy0_1 (i : Nat) : BufTy := match i % 128 with
  | 0 => ⟨S_, .f32⟩
  | 1 => ⟨S2048x512, .f32⟩
  | 2 => ⟨S34816x512, .f32⟩
  | 3 => ⟨S34816x512, .bf16⟩
  | _ => ⟨S34816x512, .bf16⟩

abbrev hbmTy (i : Nat) : BufTy := match i / 128 with
  | 0 => hbmTy0_0 i
  | 1 => hbmTy0_1 i
  | _ => ⟨S34816x512, .bf16⟩

abbrev bufTy : (tb : Table) → Fin (tcTables nBuf tb) → BufTy
  | .hbm, ⟨i, _⟩ => hbmTy i
  | _, _ => ⟨S34816x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_c_6 : Ref sig .tc := ⟨.hbm, 11, rfl⟩
abbrev main_c_7 : Ref sig .tc := ⟨.hbm, 12, rfl⟩
abbrev main_c_8 : Ref sig .tc := ⟨.hbm, 13, rfl⟩
abbrev main_c_9 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_10 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_11 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_12 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_13 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_14 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_15 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_16 : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_v74 : Ref sig .tc := ⟨.hbm, 100, rfl⟩
abbrev main_v75 : Ref sig .tc := ⟨.hbm, 101, rfl⟩
abbrev main_cst_17 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_18 : Ref sig .tc := ⟨.hbm, 106, rfl⟩
abbrev main_v79 : Ref sig .tc := ⟨.hbm, 107, rfl⟩
abbrev main_cst_19 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_20 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_21 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩

abbrev nD : Nat := 1
abbrev τ : Topo := Topo.v7x

variable {F : FTy → Type} [FloatOps F]
-- ==== Proj.lean ====
abbrev S34816x1024 : Shape := ⟨2, ![34816, 1024]⟩
abbrev S9x1x1024 : Shape := ⟨3, ![9, 1, 1024]⟩
abbrev S1024x7680 : Shape := ⟨2, ![1024, 7680]⟩
abbrev S1024x1536 : Shape := ⟨2, ![1024, 1536]⟩
abbrev S1024x512 : Shape := ⟨2, ![1024, 512]⟩
abbrev S1024x3072 : Shape := ⟨2, ![1024, 3072]⟩
abbrev S34816x1536 : Shape := ⟨2, ![34816, 1536]⟩
abbrev S34816x512 : Shape := ⟨2, ![34816, 512]⟩
abbrev S34816x3072 : Shape := ⟨2, ![34816, 3072]⟩
abbrev S256x1024 : Shape := ⟨2, ![256, 1024]⟩
abbrev S1x1x1024 : Shape := ⟨3, ![1, 1, 1024]⟩
abbrev S256x1536 : Shape := ⟨2, ![256, 1536]⟩
abbrev S256x512 : Shape := ⟨2, ![256, 512]⟩
abbrev S256x3072 : Shape := ⟨2, ![256, 3072]⟩
abbrev S1x1024 : Shape := ⟨2, ![1, 1024]⟩

abbrev nBuf : Space → Nat
  | .hbm => 22
  | .vmem => 24
  | .smem => 0
  | _ => 0

abbrev bufTy : (tb : Table) → Fin (tcTables nBuf tb) → BufTy
  | .hbm, ⟨0, _⟩ => ⟨S34816x1024, .f32⟩
  | .hbm, ⟨1, _⟩ => ⟨S9x1x1024, .f32⟩
  | .hbm, ⟨2, _⟩ => ⟨S9x1x1024, .f32⟩
  | .hbm, ⟨3, _⟩ => ⟨S1024x7680, .f32⟩
  | .hbm, ⟨4, _⟩ => ⟨S1024x1536, .f32⟩
  | .hbm, ⟨5, _⟩ => ⟨S1024x1536, .bf16⟩
  | .hbm, ⟨6, _⟩ => ⟨S1024x1536, .f32⟩
  | .hbm, ⟨7, _⟩ => ⟨S1024x1536, .bf16⟩
  | .hbm, ⟨8, _⟩ => ⟨S1024x512, .f32⟩
  | .hbm, ⟨9, _⟩ => ⟨S1024x512, .bf16⟩
  | .hbm, ⟨10, _⟩ => ⟨S1024x512, .f32⟩
  | .hbm, ⟨11, _⟩ => ⟨S1024x512, .bf16⟩
  | .hbm, ⟨12, _⟩ => ⟨S1024x512, .f32⟩
  | .hbm, ⟨13, _⟩ => ⟨S1024x512, .bf16⟩
  | .hbm, ⟨14, _⟩ => ⟨S1024x3072, .f32⟩
  | .hbm, ⟨15, _⟩ => ⟨S1024x3072, .bf16⟩
  | .hbm, ⟨16, _⟩ => ⟨S34816x1536, .f32⟩
  | .hbm, ⟨17, _⟩ => ⟨S34816x1536, .f32⟩
  | .hbm, ⟨18, _⟩ => ⟨S34816x512, .bf16⟩
  | .hbm, ⟨19, _⟩ => ⟨S34816x512, .bf16⟩
  | .hbm, ⟨20, _⟩ => ⟨S34816x512, .bf16⟩
  | .hbm, ⟨21, _⟩ => ⟨S34816x3072, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1536, .bf16⟩
  | .local _ .vmem, ⟨7, _⟩ => ⟨S1024x1536, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x3072, .bf16⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x3072, .f32⟩
  | .local _ .vmem, ⟨23, _⟩ => ⟨S256x3072, .f32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev main_v12_4 : Ref sig .tc := ⟨.hbm, 20, rfl⟩
abbrev main_v12_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c128_i32 : BitVec 32 := 128#32
  let v0 : BitVec 1 := Scalar.cmpi .slt arg0 c128_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 3 → Nat :=
  let arg0 : BitVec 32 := BitVec.ofNat 32 (i 0).val
  let c128_i32 : BitVec 32 := 128#32
  let v0 : BitVec 1 := Scalar.cmpi .slt arg0 c128_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x3072 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjRefIdeal.lean ====
abbrev S34816x1024 : Shape := ⟨2, ![34816, 1024]⟩
abbrev S9x1x1024 : Shape := ⟨3, ![9, 1, 1024]⟩
abbrev S1024x7680 : Shape := ⟨2, ![1024, 7680]⟩
abbrev S8x1x1024 : Shape := ⟨3, ![8, 1, 1024]⟩
abbrev S8x4096x1024 : Shape := ⟨3, ![8, 4096, 1024]⟩
abbrev S32768x1024 : Shape := ⟨2, ![32768, 1024]⟩
abbrev S1x1x1024 : Shape := ⟨3, ![1, 1, 1024]⟩
abbrev S1x1024 : Shape := ⟨2, ![1, 1024]⟩
abbrev S2048x1024 : Shape := ⟨2, ![2048, 1024]⟩
abbrev S_ : Shape := ⟨0, ![]⟩
abbrev S34816x7680 : Shape := ⟨2, ![34816, 7680]⟩
abbrev S34816x1536 : Shape := ⟨2, ![34816, 1536]⟩
abbrev S34816x512 : Shape := ⟨2, ![34816, 512]⟩
abbrev S34816x3072 : Shape := ⟨2, ![34816, 3072]⟩

abbrev nBuf : Space → Nat
  | .hbm => 34
  | .vmem => 0
  | .smem => 0
  | _ => 0

abbrev bufTy : (tb : Table) → Fin (tcTables nBuf tb) → BufTy
  | .hbm, ⟨0, _⟩ => ⟨S34816x1024, .f32⟩
  | .hbm, ⟨1, _⟩ => ⟨S9x1x1024, .f32⟩
  | .hbm, ⟨2, _⟩ => ⟨S9x1x1024, .f32⟩
  | .hbm, ⟨3, _⟩ => ⟨S1024x7680, .f32⟩
  | .hbm, ⟨4, _⟩ => ⟨S8x1x1024, .f32⟩
  | .hbm, ⟨5, _⟩ => ⟨S8x4096x1024, .f32⟩
  | .hbm, ⟨6, _⟩ => ⟨S32768x1024, .f32⟩
  | .hbm, ⟨7, _⟩ => ⟨S1x1x1024, .f32⟩
  | .hbm, ⟨8, _⟩ => ⟨S1x1024, .f32⟩
  | .hbm, ⟨9, _⟩ => ⟨S2048x1024, .f32⟩
  | .hbm, ⟨10, _⟩ => ⟨S34816x1024, .f32⟩
  | .hbm, ⟨11, _⟩ => ⟨S_, .f32⟩
  | .hbm, ⟨12, _⟩ => ⟨S34816x1024, .f32⟩
  | .hbm, ⟨13, _⟩ => ⟨S34816x1024, .f32⟩
  | .hbm, ⟨14, _⟩ => ⟨S34816x1024, .f32⟩
  | .hbm, ⟨15, _⟩ => ⟨S8x1x1024, .f32⟩
  | .hbm, ⟨16, _⟩ => ⟨S8x4096x1024, .f32⟩
  | .hbm, ⟨17, _⟩ => ⟨S32768x1024, .f32⟩
  | .hbm, ⟨18, _⟩ => ⟨S1x1x1024, .f32⟩
  | .hbm, ⟨19, _⟩ => ⟨S1x1024, .f32⟩
  | .hbm, ⟨20, _⟩ => ⟨S2048x1024, .f32⟩
  | .hbm, ⟨21, _⟩ => ⟨S34816x1024, .f32⟩
  | .hbm, ⟨22, _⟩ => ⟨S34816x1024, .f32⟩
  | .hbm, ⟨23, _⟩ => ⟨S34816x7680, .f32⟩
  | .hbm, ⟨24, _⟩ => ⟨S34816x1536, .f32⟩
  | .hbm, ⟨25, _⟩ => ⟨S34816x512, .f32⟩
  | .hbm, ⟨26, _⟩ => ⟨S34816x512, .f32⟩
  | .hbm, ⟨27, _⟩ => ⟨S34816x512, .f32⟩
  | .hbm, ⟨28, _⟩ => ⟨S34816x1536, .f32⟩
  | .hbm, ⟨29, _⟩ => ⟨S34816x1536, .f32⟩
  | .hbm, ⟨30, _⟩ => ⟨S34816x512, .bf16⟩
  | .hbm, ⟨31, _⟩ => ⟨S34816x512, .bf16⟩
  | .hbm, ⟨32, _⟩ => ⟨S34816x512, .bf16⟩
  | .hbm, ⟨33, _⟩ => ⟨S34816x3072, .f32⟩
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Mix.lean ====
abbrev S34816x512 : Shape := ⟨2, ![34816, 512]⟩
abbrev S34816x3072 : Shape := ⟨2, ![34816, 3072]⟩
abbrev S34816x1024 : Shape := ⟨2, ![34816, 1024]⟩
abbrev S9x1x1024 : Shape := ⟨3, ![9, 1, 1024]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1x512 : Shape := ⟨2, ![1, 512]⟩
abbrev S1x1024 : Shape := ⟨2, ![1, 1024]⟩
abbrev S256x512 : Shape := ⟨2, ![256, 512]⟩
abbrev S256x3072 : Shape := ⟨2, ![256, 3072]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 26
  | .vmem => 31
  | .smem => 0
  | _ => 0

abbrev bufTy : (tb : Table) → Fin (tcTables nBuf tb) → BufTy
  | .hbm, ⟨0, _⟩ => ⟨S34816x512, .f32⟩
  | .hbm, ⟨1, _⟩ => ⟨S34816x512, .f32⟩
  | .hbm, ⟨2, _⟩ => ⟨S34816x512, .f32⟩
  | .hbm, ⟨3, _⟩ => ⟨S34816x512, .f32⟩
  | .hbm, ⟨4, _⟩ => ⟨S34816x512, .bf16⟩
  | .hbm, ⟨5, _⟩ => ⟨S34816x3072, .f32⟩
  | .hbm, ⟨6, _⟩ => ⟨S34816x1024, .f32⟩
  | .hbm, ⟨7, _⟩ => ⟨S9x1x1024, .f32⟩
  | .hbm, ⟨8, _⟩ => ⟨S9x1x1024, .f32⟩
  | .hbm, ⟨9, _⟩ => ⟨S9x1x1024, .f32⟩
  | .hbm, ⟨10, _⟩ => ⟨S512, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1024, .f32⟩
  | .hbm, ⟨16, _⟩ => ⟨S1024, .f32⟩
  | .hbm, ⟨17, _⟩ => ⟨S1x512, .f32⟩
  | .hbm, ⟨18, _⟩ => ⟨S512x1024, .bf16⟩
  | .hbm, ⟨19, _⟩ => ⟨S512x1024, .bf16⟩
  | .hbm, ⟨20, _⟩ => ⟨S512x1024, .bf16⟩
  | .hbm, ⟨21, _⟩ => ⟨S1024x1024, .bf16⟩
  | .hbm, ⟨22, _⟩ => ⟨S1x1024, .f32⟩
  | .hbm, ⟨23, _⟩ => ⟨S1x1024, .f32⟩
  | .hbm, ⟨24, _⟩ => ⟨S34816x1024, .f32⟩
  | .hbm, ⟨25, _⟩ => ⟨S34816x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S256x3072, .f32⟩
  | .local _ .vmem, ⟨11, _⟩ => ⟨S256x3072, .f32⟩
  | .local _ .vmem, ⟨12, _⟩ => ⟨S256x1024, .f32⟩
  | .local _ .vmem, ⟨13, _⟩ => ⟨S256x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x512, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S1024x1024, .bf16⟩
  | .local _ .vmem, ⟨25, _⟩ => ⟨S1x1024, .f32⟩
  | .local _ .vmem, ⟨26, _⟩ => ⟨S1x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | _, _ => ⟨S34816x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7_0 : Ref sig .tc := ⟨.hbm, 24, rfl⟩
abbrev main_v7_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c128_i32 : BitVec 32 := 128#32
  let v0 : BitVec 1 := Scalar.cmpi .slt arg0 c128_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c0_i32_4 : BitVec 32 := 0#32
  let c0_i32_5 : BitVec 32 := 0#32
  let c0_i32_6 : BitVec 32 := 0#32
  ![v18.toNat, c0_i32_4.toNat, c0_i32_5.toNat]

def cc0_transform_8 (i : grid0.Coords) : Fin 3 → Nat :=
  let arg0 : BitVec 32 := BitVec.ofNat 32 (i 0).val
  let c128_i32 : BitVec 32 := 128#32
  let v0 : BitVec 1 := Scalar.cmpi .slt arg0 c128_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c0_i32_4 : BitVec 32 := 0#32
  let c0_i32_5 : BitVec 32 := 0#32
  let c0_i32_6 : BitVec 32 := 0#32
  ![v18.toNat, c0_i32_4.toNat, c0_i32_5.toNat]

def cc0_transform_9 (i : grid0.Coords) : Fin 3 → Nat :=
  let arg0 : BitVec 32 := BitVec.ofNat 32 (i 0).val
  let c128_i32 : BitVec 32 := 128#32
  let v0 : BitVec 1 := Scalar.cmpi .slt arg0 c128_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c0_i32_4 : BitVec 32 := 0#32
  let c0_i32_5 : BitVec 32 := 0#32
  let c0_i32_6 : BitVec 32 := 0#32
  ![v18.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MixRefIdeal.lean ====
abbrev S34816x512 : Shape := ⟨2, ![34816, 512]⟩
abbrev S34816x3072 : Shape := ⟨2, ![34816, 3072]⟩
abbrev S34816x1024 : Shape := ⟨2, ![34816, 1024]⟩
abbrev S9x1x1024 : Shape := ⟨3, ![9, 1, 1024]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1x512 : Shape := ⟨2, ![1, 512]⟩
abbrev S_ : Shape := ⟨0, ![]⟩
abbrev S8x1x1024 : Shape := ⟨3, ![8, 1, 1024]⟩
abbrev S8x4096x1024 : Shape := ⟨3, ![8, 4096, 1024]⟩
abbrev S32768x1024 : Shape := ⟨2, ![32768, 1024]⟩
abbrev S1x1x1024 : Shape := ⟨3, ![1, 1, 1024]⟩
abbrev S1x1024 : Shape := ⟨2, ![1, 1024]⟩
abbrev S2048x1024 : Shape := ⟨2, ![2048, 1024]⟩
abbrev S34816 : Shape := ⟨1, ![34816]⟩
abbrev S34816x1 : Shape := ⟨2, ![34816, 1]⟩

abbrev nBuf : Space → Nat
  | .hbm => 103
  | .vmem => 0
  | .smem => 0
  | _ => 0

abbrev bufTy : (tb : Table) → Fin (tcTables nBuf tb) → BufTy
  | .hbm, ⟨0, _⟩ => ⟨S34816x512, .f32⟩
  | .hbm, ⟨1, _⟩ => ⟨S34816x512, .f32⟩
  | .hbm, ⟨2, _⟩ => ⟨S34816x512, .f32⟩
  | .hbm, ⟨3, _⟩ => ⟨S34816x512, .f32⟩
  | .hbm, ⟨4, _⟩ => ⟨S34816x512, .bf16⟩
  | .hbm, ⟨5, _⟩ => ⟨S34816x3072, .f32⟩
  | .hbm, ⟨6, _⟩ => ⟨S34816x1024, .f32⟩
  | .hbm, ⟨7, _⟩ => ⟨S9x1x1024, .f32⟩
  | .hbm, ⟨8, _⟩ => ⟨S9x1x1024, .f32⟩
  | .hbm, ⟨9, _⟩ => ⟨S9x1x1024, .f32⟩
  | .hbm, ⟨10, _⟩ => ⟨S512, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1024, .f32⟩
  | .hbm, ⟨16, _⟩ => ⟨S1024, .f32⟩
  | .hbm, ⟨17, _⟩ => ⟨S1x512, .f32⟩
  | .hbm, ⟨18, _⟩ => ⟨S34816x512, .f32⟩
  | .hbm, ⟨19, _⟩ => ⟨S34816x512, .f32⟩
  | .hbm, ⟨20, _⟩ => ⟨S34816x512, .f32⟩
  | .hbm, ⟨21, _⟩ => ⟨S34816x512, .f32⟩
  | .hbm, ⟨22, _⟩ => ⟨S34816x3072, .f32⟩
  | .hbm, ⟨23, _⟩ => ⟨S34816x3072, .f32⟩
  | .hbm, ⟨24, _⟩ => ⟨S_, .f32⟩
  | .hbm, ⟨25, _⟩ => ⟨S34816x3072, .f32⟩
  | .hbm, ⟨26, _⟩ => ⟨S34816x3072, .f32⟩
  | .hbm, ⟨27, _⟩ => ⟨S_, .f32⟩
  | .hbm, ⟨28, _⟩ => ⟨S34816x3072, .f32⟩
  | .hbm, ⟨29, _⟩ => ⟨S34816x3072, .f32⟩
  | .hbm, ⟨30, _⟩ => ⟨S34816x1024, .f32⟩
  | .hbm, ⟨31, _⟩ => ⟨S34816x1024, .f32⟩
  | .hbm, ⟨32, _⟩ => ⟨S34816x1024, .f32⟩
  | .hbm, ⟨33, _⟩ => ⟨S34816x1024, .f32⟩
  | .hbm, ⟨34, _⟩ => ⟨S34816x1024, .f32⟩
  | .hbm, ⟨35, _⟩ => ⟨S34816x1024, .f32⟩
  | .hbm, ⟨36, _⟩ => ⟨S34816x1024, .f32⟩
  | .hbm, ⟨37, _⟩ => ⟨S34816x1024, .f32⟩
  | .hbm, ⟨38, _⟩ => ⟨S34816x512, .f32⟩
  | .hbm, ⟨39, _⟩ => ⟨S34816x1024, .f32⟩
  | .hbm, ⟨40, _⟩ => ⟨S34816x1024, .f32⟩
  | .hbm, ⟨41, _⟩ => ⟨S34816x1024, .f32⟩
  | .hbm, ⟨42, _⟩ => ⟨S_, .f32⟩
  | .hbm, ⟨43, _⟩ => ⟨S34816x1024, .f32⟩
  | .hbm, ⟨44, _⟩ => ⟨S34816x1024, .f32⟩
  | .hbm, ⟨45, _⟩ => ⟨S8x1x1024, .f32⟩
  | .hbm, ⟨46, _⟩ => ⟨S8x4096x1024, .f32⟩
  | .hbm, ⟨47, _⟩ => ⟨S32768x1024, .f32⟩
  | .hbm, ⟨48, _⟩ => ⟨S1x1x1024, .f32⟩
  | .hbm, ⟨49, _⟩ => ⟨S1x1024, .f32⟩
  | .hbm, ⟨50, _⟩ => ⟨S2048x1024, .f32⟩
  | .hbm, ⟨51, _⟩ => ⟨S34816x1024, .f32⟩
  | .hbm, ⟨52, _⟩ => ⟨S34816x1024, .f32⟩
  | .hbm, ⟨53, _⟩ => ⟨S34816x1024, .f32⟩
  | .hbm, ⟨54, _⟩ => ⟨S34816x1024, .f32⟩
  | .hbm, ⟨55, _⟩ => ⟨S_, .f32⟩
  | .hbm, ⟨56, _⟩ => ⟨S34816, .f32⟩
  | .hbm, ⟨57, _⟩ => ⟨S34816x1, .f32⟩
  | .hbm, ⟨58, _⟩ => ⟨S_, .f32⟩
  | .hbm, ⟨59, _⟩ => ⟨S34816x1, .f32⟩
  | .hbm, ⟨60, _⟩ => ⟨S34816x1, .f32⟩
  | .hbm, ⟨61, _⟩ => ⟨S34816x1024, .f32⟩
  | .hbm, ⟨62, _⟩ => ⟨S34816x1024, .f32⟩
  | .hbm, ⟨63, _⟩ => ⟨S34816x1024, .f32⟩
  | .hbm, ⟨64, _⟩ => ⟨S_, .f32⟩
  | .hbm, ⟨65, _⟩ => ⟨S34816, .f32⟩
  | .hbm, ⟨66, _⟩ => ⟨S34816x1, .f32⟩
  | .hbm, ⟨67, _⟩ => ⟨S_, .f32⟩
  | .hbm, ⟨68, _⟩ => ⟨S34816x1, .f32⟩
  | .hbm, ⟨69, _⟩ => ⟨S34816x1, .f32⟩
  | .hbm, ⟨70, _⟩ => ⟨S34816x1024, .f32⟩
  | .hbm, ⟨71, _⟩ => ⟨S34816x1024, .f32⟩
  | .hbm, ⟨72, _⟩ => ⟨S_, .f32⟩
  | .hbm, ⟨73, _⟩ => ⟨S34816x1, .f32⟩
  | .hbm, ⟨74, _⟩ => ⟨S34816x1, .f32⟩
  | .hbm, ⟨75, _⟩ => ⟨S34816x1, .f32⟩
  | .hbm, ⟨76, _⟩ => ⟨S34816x1024, .f32⟩
  | .hbm, ⟨77, _⟩ => ⟨S34816x1024, .f32⟩
  | .hbm, ⟨78, _⟩ => ⟨S1x1024, .f32⟩
  | .hbm, ⟨79, _⟩ => ⟨S34816x1024, .f32⟩
  | .hbm, ⟨80, _⟩ => ⟨S34816x1024, .f32⟩
  | .hbm, ⟨81, _⟩ => ⟨S1x1024, .f32⟩
  | .hbm, ⟨82, _⟩ => ⟨S34816x1024, .f32⟩
  | .hbm, ⟨83, _⟩ => ⟨S34816x1024, .f32⟩
  | .hbm, ⟨84, _⟩ => ⟨S8x1x1024, .f32⟩
  | .hbm, ⟨85, _⟩ => ⟨S8x4096x1024, .f32⟩
  | .hbm, ⟨86, _⟩ => ⟨S32768x1024, .f32⟩
  | .hbm, ⟨87, _⟩ => ⟨S1x1x1024, .f32⟩
  | .hbm, ⟨88, _⟩ => ⟨S1x1024, .f32⟩
  | .hbm, ⟨89, _⟩ => ⟨S2048x1024, .f32⟩
  | .hbm, ⟨90, _⟩ => ⟨S34816x1024, .f32⟩
  | .hbm, ⟨91, _⟩ => ⟨S_, .f32⟩
  | .hbm, ⟨92, _⟩ => ⟨S34816x1024, .f32⟩
  | .hbm, ⟨93, _⟩ => ⟨S34816x1024, .f32⟩
  | .hbm, ⟨94, _⟩ => ⟨S34816x1024, .f32⟩
  | .hbm, ⟨95, _⟩ => ⟨S8x1x1024, .f32⟩
  | .hbm, ⟨96, _⟩ => ⟨S8x4096x1024, .f32⟩
  | .hbm, ⟨97, _⟩ => ⟨S32768x1024, .f32⟩
  | .hbm, ⟨98, _⟩ => ⟨S1x1x1024, .f32⟩
  | .hbm, ⟨99, _⟩ => ⟨S1x1024, .f32⟩
  | .hbm, ⟨100, _⟩ => ⟨S2048x1024, .f32⟩
  | .hbm, ⟨101, _⟩ => ⟨S34816x1024, .f32⟩
  | .hbm, ⟨102, _⟩ => ⟨S34816x1024, .f32⟩
  | _, _ => ⟨S34816x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_2 : Ref sig .tc := ⟨.hbm, 55, rfl⟩
abbrev main_v35 : Ref sig .tc := ⟨.hbm, 56, rfl⟩
abbrev main_v36 : Ref sig .tc := ⟨.hbm, 57, rfl⟩
abbrev main_cst_3 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_4 : Ref sig .tc := ⟨.hbm, 64, rfl⟩
abbrev main_v42 : Ref sig .tc := ⟨.hbm, 65, rfl⟩
abbrev main_v43 : Ref sig .tc := ⟨.hbm, 66, rfl⟩
abbrev main_cst_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_7 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩

abbrev nD : Nat := 1
abbrev τ : Topo := Topo.v7x

variable {F : FTy → Type} [FloatOps F]
-- ==== Exp.lean ====
abbrev S1152 : Shape := ⟨1, ![1152]⟩
abbrev S1 : Shape := ⟨1, ![1]⟩
abbrev S294912x1024 : Shape := ⟨2, ![294912, 1024]⟩
abbrev S64x1024x256 : Shape := ⟨3, ![64, 1024, 256]⟩
abbrev S64x256x1024 : Shape := ⟨3, ![64, 256, 1024]⟩
abbrev S256x1024 : Shape := ⟨2, ![256, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x256 : Shape := ⟨2, ![256, 256]⟩

abbrev nBuf : Space → Nat
  | .hbm => 8
  | .vmem => 10
  | .smem => 2
  | _ => 0

abbrev bufTy : (tb : Table) → Fin (tcTables nBuf tb) → BufTy
  | .hbm, ⟨0, _⟩ => ⟨S294912x1024, .f32⟩
  | .hbm, ⟨1, _⟩ => ⟨S64x1024x256, .f32⟩
  | .hbm, ⟨2, _⟩ => ⟨S64x1024x256, .f32⟩
  | .hbm, ⟨3, _⟩ => ⟨S64x256x1024, .f32⟩
  | .hbm, ⟨4, _⟩ => ⟨S64x1024x256, .bf16⟩
  | .hbm, ⟨5, _⟩ => ⟨S64x1024x256, .bf16⟩
  | .hbm, ⟨6, _⟩ => ⟨S64x256x1024, .bf16⟩
  | .hbm, ⟨7, _⟩ => ⟨S294912x1024, .f32⟩
  | .local _ .vmem, ⟨0, _⟩ => ⟨S256x1024, .f32⟩
  | .local _ .vmem, ⟨1, _⟩ => ⟨S256x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S256x1024, .f32⟩
  | .local _ .vmem, ⟨9, _⟩ => ⟨S256x1024, .f32⟩
  | .local _ .smem, ⟨0, _⟩ => ⟨S1152, .i32⟩
  | .local _ .smem, ⟨1, _⟩ => ⟨S1, .i32⟩
  | _, _ => ⟨S294912x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![1152], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S1152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S1152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S1152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpRefIdeal.lean ====
abbrev S1152 : Shape := ⟨1, ![1152]⟩
abbrev S1 : Shape := ⟨1, ![1]⟩
abbrev S294912x1024 : Shape := ⟨2, ![294912, 1024]⟩
abbrev S64x1024x256 : Shape := ⟨3, ![64, 1024, 256]⟩
abbrev S64x256x1024 : Shape := ⟨3, ![64, 256, 1024]⟩
abbrev S1152x256x1024 : Shape := ⟨3, ![1152, 256, 1024]⟩
abbrev S_ : Shape := ⟨0, ![]⟩
abbrev S1152x1 : Shape := ⟨2, ![1152, 1]⟩
abbrev S1152x1024x256 : Shape := ⟨3, ![1152, 1024, 256]⟩
abbrev S1152x256x256 : Shape := ⟨3, ![1152, 256, 256]⟩
abbrev S1152x1x1 : Shape := ⟨3, ![1152, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S1152, .i32⟩
  | .hbm, ⟨1, _⟩ => ⟨S1, .i32⟩
  | .hbm, ⟨2, _⟩ => ⟨S294912x1024, .f32⟩
  | .hbm, ⟨3, _⟩ => ⟨S64x1024x256, .f32⟩
  | .hbm, ⟨4, _⟩ => ⟨S64x1024x256, .f32⟩
  | .hbm, ⟨5, _⟩ => ⟨S64x256x1024, .f32⟩
  | .hbm, ⟨6, _⟩ => ⟨S1152x256x1024, .f32⟩
  | .hbm, ⟨7, _⟩ => ⟨S_, .i32⟩
  | .hbm, ⟨8, _⟩ => ⟨S1152, .i32⟩
  | .hbm, ⟨9, _⟩ => ⟨S1152, .i1⟩
  | .hbm, ⟨10, _⟩ => ⟨S_, .i32⟩
  | .hbm, ⟨11, _⟩ => ⟨S1152, .i32⟩
  | .hbm, ⟨12, _⟩ => ⟨S1152, .i32⟩
  | .hbm, ⟨13, _⟩ => ⟨S1152, .i32⟩
  | .hbm, ⟨14, _⟩ => ⟨S1152x1, .i32⟩
  | .hbm, ⟨15, _⟩ => ⟨S1152x1024x256, .f32⟩
  | .hbm, ⟨16, _⟩ => ⟨S_, .i32⟩
  | .hbm, ⟨17, _⟩ => ⟨S1152, .i32⟩
  | .hbm, ⟨18, _⟩ => ⟨S1152, .i1⟩
  | .hbm, ⟨19, _⟩ => ⟨S_, .i32⟩
  | .hbm, ⟨20, _⟩ => ⟨S1152, .i32⟩
  | .hbm, ⟨21, _⟩ => ⟨S1152, .i32⟩
  | .hbm, ⟨22, _⟩ => ⟨S1152, .i32⟩
  | .hbm, ⟨23, _⟩ => ⟨S1152x1, .i32⟩
  | .hbm, ⟨24, _⟩ => ⟨S1152x1024x256, .f32⟩
  | .hbm, ⟨25, _⟩ => ⟨S_, .i32⟩
  | .hbm, ⟨26, _⟩ => ⟨S1152, .i32⟩
  | .hbm, ⟨27, _⟩ => ⟨S1152, .i1⟩
  | .hbm, ⟨28, _⟩ => ⟨S_, .i32⟩
  | .hbm, ⟨29, _⟩ => ⟨S1152, .i32⟩
  | .hbm, ⟨30, _⟩ => ⟨S1152, .i32⟩
  | .hbm, ⟨31, _⟩ => ⟨S1152, .i32⟩
  | .hbm, ⟨32, _⟩ => ⟨S1152x1, .i32⟩
  | .hbm, ⟨33, _⟩ => ⟨S1152x256x1024, .f32⟩
  | .hbm, ⟨34, _⟩ => ⟨S1152x256x256, .f32⟩
  | .hbm, ⟨35, _⟩ => ⟨S1152x256x256, .f32⟩
  | .hbm, ⟨36, _⟩ => ⟨S1152x256x256, .f32⟩
  | .hbm, ⟨37, _⟩ => ⟨S_, .f32⟩
  | .hbm, ⟨38, _⟩ => ⟨S1152x256x256, .f32⟩
  | .hbm, ⟨39, _⟩ => ⟨S1152x256x256, .f32⟩
  | .hbm, ⟨40, _⟩ => ⟨S_, .f32⟩
  | .hbm, ⟨41, _⟩ => ⟨S1152x256x256, .f32⟩
  | .hbm, ⟨42, _⟩ => ⟨S1152x256x256, .f32⟩
  | .hbm, ⟨43, _⟩ => ⟨S1152x256x256, .f32⟩
  | .hbm, ⟨44, _⟩ => ⟨S1152x256x256, .f32⟩
  | .hbm, ⟨45, _⟩ => ⟨S1152x256x256, .f32⟩
  | .hbm, ⟨46, _⟩ => ⟨S1152x256x1024, .f32⟩
  | .hbm, ⟨47, _⟩ => ⟨S1152, .i32⟩
  | .hbm, ⟨48, _⟩ => ⟨S_, .i32⟩
  | .hbm, ⟨49, _⟩ => ⟨S1152, .i32⟩
  | .hbm, ⟨50, _⟩ => ⟨S1152, .i1⟩
  | .hbm, ⟨51, _⟩ => ⟨S1152x1x1, .i1⟩
  | .hbm, ⟨52, _⟩ => ⟨S_, .f32⟩
  | .hbm, ⟨53, _⟩ => ⟨S_, .f32⟩
  | .hbm, ⟨54, _⟩ => ⟨S1152x256x1024, .i1⟩
  | .hbm, ⟨55, _⟩ => ⟨S1152x256x1024, .f32⟩
  | .hbm, ⟨56, _⟩ => ⟨S1152x256x1024, .f32⟩
  | .hbm, ⟨57, _⟩ => ⟨S294912x1024, .f32⟩
  | _, _ => ⟨S1152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Proof.ProjValue.lean ====
module

public import proofs.«01_k».proof.Proof.Gen.ProjIdeal.Value
public import proofs.«01_k».proof.Proof.Gen.ProjRefIdeal.Read
public import Idealize.ShloMosaic.Lib.Pipeline.ValueKit
public import Idealize.ShloMosaic.Lib.Pointwise

@[expose] public section

set_option maxRecDepth 65536

noncomputable section

namespace Cert.ProjValue

open Idealize.ShloMosaic Idealize.ShloMosaic.TcCoe Idealize.SL.Sem
open Idealize.ShloMosaic.Pipeline (Dat)
open Cert.ProjIdeal Cert.ProjIdeal.Gen

/-- The row of the modulation table a token reads: its sequence's, or the last row for a context token. -/
def modRow (I : Fin 34816) : Fin 9 := ⟨if I.val < 32768 then I.val / 4096 else 8, by split <;> omega⟩

/-- A token's modulated entry: the token times one plus its scale, plus its shift. -/
def modAt (x : FVec Ideal S34816x1024 .f32) (sh sc : FVec Ideal S9x1x1024 .f32) (I : Fin 34816) (k : Fin 1024) : EReal :=
  x (ix2 I k) * (1 + sc (ix3 (modRow I) 0 k)) + sh (ix3 (modRow I) 0 k)

/-- The projection, entry by entry: the modulated token times a column of the weight matrix. -/
def lin (x : FVec Ideal S34816x1024 .f32) (sh sc : FVec Ideal S9x1x1024 .f32)
    (w : FVec Ideal ProjRefIdeal.S1024x7680 .f32) (I : Fin 34816) (J : Fin 7680) : EReal :=
  ∑ k : Fin 1024, modAt x sh sc I k * w (ix2 k J)

/-- The block indices of the windows at each grid point. -/
theorem idx : ∀ t : Fin cfg0.N, win0_0.index t = ![t.val, 0]
    ∧ win0_1.index t = ![if t.val < 128 then t.val / 16 else 8, 0, 0] ∧ win0_2.index t = ![if t.val < 128 then t.val / 16 else 8, 0, 0]
    ∧ win0_3.index t = ![0, 0] ∧ win0_4.index t = ![0, 0] ∧ win0_5.index t = ![0, 0] ∧ win0_6.index t = ![0, 0]
    ∧ win0_7.index t = ![0, 0] ∧ win0_8.index t = ![0, 0]
    ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] :=
  (by decide +kernel : ∀ t : Fin grid0.N, _)

/-- The reference's rows of the scale table, token by token: the latent tokens' rows followed by the context row. -/
theorem tok_scale (x2 : FVec Ideal S9x1x1024 .f32) (I : Fin 34816) (k : Fin 1024) :
    ProjRefIdeal.Read.val_main_v6 (F := Ideal) x2 (ix2 I k) = x2 (ix3 (modRow I) 0 k) := by
  pointwise [ProjRefIdeal.Read.val_main_v6, ProjRefIdeal.Read.val_main_v5, ProjRefIdeal.Read.val_main_v4, ProjRefIdeal.Read.val_main_v3, ProjRefIdeal.Read.val_main_v2, ProjRefIdeal.Read.val_main_v1, ProjRefIdeal.Read.val_main_v0]
  by_cases h : (I : ℕ) < 32768
  · rw [dif_pos h]; refine congrArg x2 ((ix3_inj ..).2 ⟨Fin.ext ?_, rfl, rfl⟩); simp [modRow, h]
  · rw [dif_neg h]; refine congrArg x2 ((ix3_inj ..).2 ⟨Fin.ext ?_, rfl, rfl⟩); simp [modRow, h]

/-- The reference's rows of the shift table, token by token. -/
theorem tok_shift (x1 : FVec Ideal S9x1x1024 .f32) (I : Fin 34816) (k : Fin 1024) :
    ProjRefIdeal.Read.val_main_v16 (F := Ideal) x1 (ix2 I k) = x1 (ix3 (modRow I) 0 k) := tok_scale x1 I k

/-- The reference's product, entry by entry. -/
theorem ref_lin (x0 : FVec Ideal S34816x1024 .f32) (x1 x2 : FVec Ideal S9x1x1024 .f32) (x3 : FVec Ideal ProjRefIdeal.S1024x7680 .f32)
    (I : Fin 34816) (J : Fin 7680) :
    ProjRefIdeal.Read.val_main_v18 (F := Ideal) x0 x1 x2 x3 (ix2 I J) = lin x0 x1 x2 x3 I J := by
  pointwise [ProjRefIdeal.Read.val_main_v18, ProjRefIdeal.Read.val_main_v17, ProjRefIdeal.Read.val_main_v9, ProjRefIdeal.Read.val_main_v8, ProjRefIdeal.Read.val_main_v7, ProjRefIdeal.Read.val_main_cst]
  refine Finset.sum_congr rfl fun k _ => ?_
  rw [tok_scale, tok_shift]; rfl

variable (m : (ℓ : Loc nD τ sig) → Buf (Elt Ideal) ℓ)

/-- The modulated token block, at the entry of the array its place names. -/
theorem mod_block (c : Dev nD) (t : Fin cfg0.N) (r : Fin 256) (k : Fin 1024) (h : t.val * 256 + r.val < 34816) :
    k0_pay3 (F := Ideal) (iblk m c 0 t) (iblk m c 2 t) (iblk m c 1 t) (ix2 r k)
      = modAt (m ((c : Thread nD τ).loc main_arg0)) (m ((c : Thread nD τ).loc main_arg1)) (m ((c : Thread nD τ).loc main_arg2))
        ⟨t.val * 256 + r.val, h⟩ k := by
  pointwise [k0_pay3, modAt]
  blk_point [iblk, V, idx t, modRow]
  all_goals (split <;> split <;> omega)

/-- The place in the first result of an entry of its block. -/
theorem emb9 (t : Fin cfg0.N) (r : Fin 256) (l : Fin 1536) :
    ((cfg0.win 9).blk t).view.emb (ix2 r l : S256x1536.Idx)
      = (ix2 ⟨t.val * 256 + r.val, by have := lt_of_lt_of_eq t.isLt Gen.N_0; omega⟩ l : S34816x1536.Idx) := by
  blk_ext [idx t]

/-- What a grid point stores for the first result is the reference's value at the entry's place. -/
theorem point9 (c : Dev nD) (t : Fin cfg0.N) (y : S256x1536.Idx) :
    k0_pay4 (F := Ideal) (iblk m c 0 t) (iblk m c 2 t) (iblk m c 1 t) (iblk m c 3 t) y
      = ProjRefIdeal.Read.val_main_v23 (F := Ideal) (m ((c : Thread nD τ).loc main_arg0)) (m ((c : Thread nD τ).loc main_arg1)) (m ((c : Thread nD τ).loc main_arg2)) (m ((c : Thread nD τ).loc main_arg3)) (((cfg0.win 9).blk t).view.emb y) := by
  idx_vars y
  rw [emb9]
  pointwise [k0_pay4, ProjRefIdeal.Read.val_main_v23]
  rw [ref_lin, lin]
  refine Finset.sum_congr rfl fun k _ => Ideal.mul_congr (mod_block m c t y0 k _) ?_
  blk_point [iblk, V, idx t]

/-- The first result array is the reference's. -/
theorem final9 (c : Dev nD) : (dats m 0 c).arrAt 9 (cfgs 0).N
    = ProjRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9]; frame_out
  exact point9 m c t y

/-- The place in the second result of an entry of its block. -/
theorem emb10 (t : Fin cfg0.N) (r : Fin 256) (l : Fin 1536) :
    ((cfg0.win 10).blk t).view.emb (ix2 r l : S256x1536.Idx)
      = (ix2 ⟨t.val * 256 + r.val, by have := lt_of_lt_of_eq t.isLt Gen.N_0; omega⟩ l : S34816x1536.Idx) := by
  blk_ext [idx t]

/-- What a grid point stores for the second result is the reference's value at the entry's place. -/
theorem point10 (c : Dev nD) (t : Fin cfg0.N) (y : S256x1536.Idx) :
    k0_pay5 (F := Ideal) (iblk m c 0 t) (iblk m c 2 t) (iblk m c 1 t) (iblk m c 4 t) y
      = ProjRefIdeal.Read.val_main_v24 (F := Ideal) (m ((c : Thread nD τ).loc main_arg0)) (m ((c : Thread nD τ).loc main_arg1)) (m ((c : Thread nD τ).loc main_arg2)) (m ((c : Thread nD τ).loc main_arg3)) (((cfg0.win 10).blk t).view.emb y) := by
  idx_vars y
  rw [emb10]
  pointwise [k0_pay5, ProjRefIdeal.Read.val_main_v24]
  rw [ref_lin, lin]
  refine Finset.sum_congr rfl fun k _ => Ideal.mul_congr (mod_block m c t y0 k _) ?_
  blk_point [iblk, V, idx t]

/-- The second result array is the reference's. -/
theorem final10 (c : Dev nD) : (dats m 0 c).arrAt 10 (cfgs 0).N
    = ProjRefIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10]; frame_out
  exact point10 m c t y

/-- The place in the third result of an entry of its block. -/
theorem emb11 (t : Fin cfg0.N) (r : Fin 256) (l : Fin 512) :
    ((cfg0.win 11).blk t).view.emb (ix2 r l : S256x512.Idx)
      = (ix2 ⟨t.val * 256 + r.val, by have := lt_of_lt_of_eq t.isLt Gen.N_0; omega⟩ l : S34816x512.Idx) := by
  blk_ext [idx t]

/-- What a grid point stores for the third result is the reference's value at the entry's place. -/
theorem point11 (c : Dev nD) (t : Fin cfg0.N) (y : S256x512.Idx) :
    k0_pay6 (F := Ideal) (iblk m c 0 t) (iblk m c 2 t) (iblk m c 1 t) (iblk m c 5 t) y
      = ProjRefIdeal.Read.val_main_v25 (F := Ideal) (m ((c : Thread nD τ).loc main_arg0)) (m ((c : Thread nD τ).loc main_arg1)) (m ((c : Thread nD τ).loc main_arg2)) (m ((c : Thread nD τ).loc main_arg3)) (((cfg0.win 11).blk t).view.emb y) := by
  idx_vars y
  rw [emb11]
  pointwise [k0_pay6, ProjRefIdeal.Read.val_main_v25, ProjRefIdeal.Read.val_main_v20, ProjRefIdeal.Read.val_main_v19]
  rw [ref_lin, lin]
  refine Finset.sum_congr rfl fun k _ => Ideal.mul_congr (mod_block m c t y0 k _) ?_
  blk_point [iblk, V, idx t]

/-- The third result array is the reference's. -/
theorem final11 (c : Dev nD) : (dats m 0 c).arrAt 11 (cfgs 0).N
    = ProjRefIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t _ y => ?_
  blk_simp
  rw [after0_11]; frame_out
  exact point11 m c t y

/-- The place in the fourth result of an entry of its block. -/
theorem emb12 (t : Fin cfg0.N) (r : Fin 256) (l : Fin 512) :
    ((cfg0.win 12).blk t).view.emb (ix2 r l : S256x512.Idx)
      = (ix2 ⟨t.val * 256 + r.val, by have := lt_of_lt_of_eq t.isLt Gen.N_0; omega⟩ l : S34816x512.Idx) := by
  blk_ext [idx t]

/-- What a grid point stores for the fourth result is the reference's value at the entry's place. -/
theorem point12 (c : Dev nD) (t : Fin cfg0.N) (y : S256x512.Idx) :
    k0_pay7 (F := Ideal) (iblk m c 0 t) (iblk m c 2 t) (iblk m c 1 t) (iblk m c 6 t) y
      = ProjRefIdeal.Read.val_main_v26 (F := Ideal) (m ((c : Thread nD τ).loc main_arg0)) (m ((c : Thread nD τ).loc main_arg1)) (m ((c : Thread nD τ).loc main_arg2)) (m ((c : Thread nD τ).loc main_arg3)) (((cfg0.win 12).blk t).view.emb y) := by
  idx_vars y
  rw [emb12]
  pointwise [k0_pay7, ProjRefIdeal.Read.val_main_v26, ProjRefIdeal.Read.val_main_v21, ProjRefIdeal.Read.val_main_v19]
  rw [ref_lin, lin]
  refine Finset.sum_congr rfl fun k _ => Ideal.mul_congr (mod_block m c t y0 k _) ?_
  blk_point [iblk, V, idx t]

/-- The fourth result array is the reference's. -/
theorem final12 (c : Dev nD) : (dats m 0 c).arrAt 12 (cfgs 0).N
    = ProjRefIdeal.Read.val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t _ y => ?_
  blk_simp
  rw [after0_12]; frame_out
  exact point12 m c t y

/-- The place in the fifth result of an entry of its block. -/
theorem emb13 (t : Fin cfg0.N) (r : Fin 256) (l : Fin 512) :
    ((cfg0.win 13).blk t).view.emb (ix2 r l : S256x512.Idx)
      = (ix2 ⟨t.val * 256 + r.val, by have := lt_of_lt_of_eq t.isLt Gen.N_0; omega⟩ l : S34816x512.Idx) := by
  blk_ext [idx t]

/-- What a grid point stores for the fifth result is the reference's value at the entry's place. -/
theorem point13 (c : Dev nD) (t : Fin cfg0.N) (y : S256x512.Idx) :
    k0_pay1 (F := Ideal) (k0_pay3 (F := Ideal) (iblk m c 0 t) (iblk m c 2 t) (iblk m c 1 t)) (iblk m c 7 t) y
      = ProjRefIdeal.Read.val_main_v27 (F := Ideal) (m ((c : Thread nD τ).loc main_arg0)) (m ((c : Thread nD τ).loc main_arg1)) (m ((c : Thread nD τ).loc main_arg2)) (m ((c : Thread nD τ).loc main_arg3)) (((cfg0.win 13).blk t).view.emb y) := by
  idx_vars y
  rw [emb13]
  pointwise [k0_pay1, ProjRefIdeal.Read.val_main_v27, ProjRefIdeal.Read.val_main_v22, ProjRefIdeal.Read.val_main_v19]
  rw [ref_lin, lin]
  refine Finset.sum_congr rfl fun k _ => Ideal.mul_congr (mod_block m c t y0 k _) ?_
  blk_point [iblk, V, idx t]

/-- The fifth result array is the reference's. -/
theorem final13 (c : Dev nD) : (dats m 0 c).arrAt 13 (cfgs 0).N
    = ProjRefIdeal.Read.val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 13 _ (by decide +kernel) fun t _ y => ?_
  blk_simp
  rw [after0_13]; unfold_out out0_13; frame_out
  exact point13 m c t y

/-- The place in the sixth result of an entry of its block. -/
theorem emb14 (t : Fin cfg0.N) (r : Fin 256) (l : Fin 3072) :
    ((cfg0.win 14).blk t).view.emb (ix2 r l : S256x3072.Idx)
      = (ix2 ⟨t.val * 256 + r.val, by have := lt_of_lt_of_eq t.isLt Gen.N_0; omega⟩ l : S34816x3072.Idx) := by
  blk_ext [idx t]

/-- What a grid point stores for the sixth result is the reference's value at the entry's place. -/
theorem point14 (c : Dev nD) (t : Fin cfg0.N) (y : S256x3072.Idx) :
    k0_pay2 (F := Ideal) (k0_pay3 (F := Ideal) (iblk m c 0 t) (iblk m c 2 t) (iblk m c 1 t)) (iblk m c 8 t) y
      = ProjRefIdeal.Read.val_main_v28 (F := Ideal) (m ((c : Thread nD τ).loc main_arg0)) (m ((c : Thread nD τ).loc main_arg1)) (m ((c : Thread nD τ).loc main_arg2)) (m ((c : Thread nD τ).loc main_arg3)) (((cfg0.win 14).blk t).view.emb y) := by
  idx_vars y
  rw [emb14]
  pointwise [k0_pay2, ProjRefIdeal.Read.val_main_v28]
  rw [ref_lin, lin]
  refine Finset.sum_congr rfl fun k _ => Ideal.mul_congr (mod_block m c t y0 k _) ?_
  blk_point [iblk, V, idx t]

/-- The sixth result array is the reference's. -/
theorem final14 (c : Dev nD) : (dats m 0 c).arrAt 14 (cfgs 0).N
    = ProjRefIdeal.Read.val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 14 _ (by decide +kernel) fun t _ y => ?_
  blk_simp
  rw [after0_14]; unfold_out out0_14; frame_out
  exact point14 m c t y

end Cert.ProjValue

end
-- ==== Proof.ProjPair.lean ====
module

public import proofs.«01_k».proof.Defs
public import proofs.«01_k».proof.Proof.ProjValue
public import proofs.«01_k».proof.Proof.Gen.ProjRefIdeal.Run

@[expose] public section

set_option maxRecDepth 65536

noncomputable section

namespace Cert.ProjValue

open Idealize.ShloMosaic Idealize.ShloMosaic.TcCoe Idealize.SL.Sem
open Idealize.ShloMosaic.Pipeline (Dat)
open Cert.ProjIdeal Cert.ProjIdeal.Gen

/-- The six results of the input projection are its reference's, on any arguments. -/
theorem algebraic : Cert.algebraic_ProjIdeal_ProjRefIdeal := by
  intro m g m' g' _ hag
  refine ⟨_, _, _, _, _, _, ProjIdeal.Value.run_blocks m g, ?_⟩
  refine (θ_run _ _ _).mono (fun r h c => ?_) (ProjRefIdeal.Value.run m' g')
  have h' := h c
  obtain ⟨a0, a1, a2, a3⟩ := hag c
  rw [final9 m c, final10 m c, final11 m c, final12 m c, final13 m c, final14 m c, ← a0, ← a1, ← a2, ← a3]
  exact h'

end Cert.ProjValue

end
-- ==== Proof.NaSoftmax.lean ====
module

public import Idealize.ShloMosaic.Lib.Pipeline.ValueKit
public import Idealize.ShloMosaic.Lib.Pointwise

@[expose] public section

noncomputable section

namespace Cert.NaSoftmax

open Idealize.ShloMosaic

/-- An extended real that is a real number. -/
def IsReal (x : EReal) : Prop := ∃ r : ℝ, x = (r : EReal)

/-- Zero is a real number. -/
theorem IsReal.zero : IsReal 0 := ⟨0, by simp⟩

/-- A sum of two reals is real. -/
theorem IsReal.add {x y : EReal} (hx : IsReal x) (hy : IsReal y) : IsReal (x + y) := by
  obtain ⟨a, rfl⟩ := hx; obtain ⟨b, rfl⟩ := hy
  exact ⟨a + b, by push_cast; rfl⟩

/-- A product of two reals is real. -/
theorem IsReal.mul {x y : EReal} (hx : IsReal x) (hy : IsReal y) : IsReal (x * y) := by
  obtain ⟨a, rfl⟩ := hx; obtain ⟨b, rfl⟩ := hy
  exact ⟨a * b, by push_cast; rfl⟩

/-- A finite sum of reals is real. -/
theorem IsReal.sum {ι : Type} (s : Finset ι) (f : ι → EReal) (h : ∀ i, IsReal (f i)) : IsReal (∑ i ∈ s, f i) := by
  classical
  induction s using Finset.induction_on with
  | empty => simpa using IsReal.zero
  | insert a s ha ih => rw [Finset.sum_insert ha]; exact (h a).add ih

/-- The word of minus infinity denotes the bottom element. -/
theorem ninf_eq : Ideal.ofBits FTy.f32 0xFF800000#32 = (⊥ : EReal) := by
  simp [Ideal.ofBits, Ideal.ieee]

/-- A running maximum over all indices that starts at the bottom element is the supremum. -/
theorem fold_eq_sup {ι : Type} [Fintype ι] (f : ι → EReal) :
    Finset.univ.fold max (Ideal.ofBits FTy.f32 0xFF800000#32) f = Finset.univ.sup f := by
  rw [ninf_eq]; rfl

/-- The weight `exp (s - M)` vanishes where the score is the bottom element. -/
theorem exp_bot_sub (M : EReal) : Ideal.exp (⊥ - M) = 0 := by
  rw [sub_eq_add_neg, EReal.bot_add]; rfl

/-- Multiplication by a nonnegative real goes through a finite sum of extended reals. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

section
variable {A B C W : Type} [Fintype A] [Fintype B] [Fintype C] [Fintype W]

/-- The largest score over two families. -/
def top2 (s : A → EReal) (u : C → EReal) : EReal := max (Finset.univ.sup s) (Finset.univ.sup u)

/-- The sum of the weights of two families under a common shift. -/
def den2 (s : A → EReal) (u : C → EReal) (M : EReal) : EReal :=
  (∑ a, Ideal.exp (s a - M)) + ∑ c, Ideal.exp (u c - M)

/-- Softmax over two families with one division of the weighted sum at the end. -/
def divAfter (s v : A → EReal) (u w : C → EReal) : EReal :=
  Ideal.div ((∑ a, Ideal.exp (s a - top2 s u) * v a) + ∑ c, Ideal.exp (u c - top2 s u) * w c)
    (den2 s u (top2 s u))

/-- Softmax over two families with every weight divided before the weighted sum. -/
def divBefore (s v : A → EReal) (u w : C → EReal) : EReal :=
  (∑ a, Ideal.div (Ideal.exp (s a - top2 s u)) (den2 s u (top2 s u)) * v a)
    + ∑ c, Ideal.div (Ideal.exp (u c - top2 s u)) (den2 s u (top2 s u)) * w c

/-- A supremum is unchanged when the family is restricted to an embedded window outside of which it is bottom. -/
theorem sup_window (e : W → A) (s : A → EReal) (h : ∀ a, (∀ w, e w ≠ a) → s a = ⊥) :
    Finset.univ.sup s = Finset.univ.sup fun w => s (e w) := by
  apply le_antisymm
  · refine Finset.sup_le fun a _ => ?_
    by_cases ha : ∃ w, e w = a
    · obtain ⟨w, rfl⟩ := ha
      exact Finset.le_sup (f := fun w => s (e w)) (Finset.mem_univ w)
    · rw [h a (fun w hw => ha ⟨w, hw⟩)]; exact bot_le
  · exact Finset.sup_le fun w _ => Finset.le_sup (f := s) (Finset.mem_univ (e w))

/-- A sum is unchanged when the family is restricted to an embedded window outside of which it vanishes. -/
theorem sum_window (e : W → A) (he : Function.Injective e) (f : A → EReal) (h : ∀ a, (∀ w, e w ≠ a) → f a = 0) :
    ∑ a, f a = ∑ w, f (e w) := by
  refine (Finset.sum_of_injOn e (fun x _ y _ hxy => he hxy) (fun _ _ => Finset.mem_coe.2 (Finset.mem_univ _)) ?_ (fun _ _ => rfl)).symm
  intro a _ ha
  refine h a fun w hw => ha ⟨w, by simp, hw⟩

/-- Softmax with the division at the end only depends on the window. -/
theorem divAfter_window (e : W → A) (he : Function.Injective e) (s v : A → EReal) (u w : C → EReal)
    (h : ∀ a, (∀ x, e x ≠ a) → s a = ⊥) :
    divAfter s v u w = divAfter (fun x => s (e x)) (fun x => v (e x)) u w := by
  have ht : top2 s u = top2 (fun x => s (e x)) u := by rw [top2, top2, sup_window e s h]
  unfold divAfter den2
  rw [ht, sum_window e he (fun a => Ideal.exp (s a - top2 (fun x => s (e x)) u) * v a), sum_window e he (fun a => Ideal.exp (s a - top2 (fun x => s (e x)) u))]
  · intro a ha; rw [h a ha, exp_bot_sub]
  · intro a ha; rw [h a ha, exp_bot_sub, zero_mul]

/-- A zero weight stays zero under division by a positive real. -/
theorem div_zero_left (d : ℝ) (hd : d ≠ 0) : Ideal.div 0 (d : EReal) = 0 := by
  rw [Ideal.div_coe hd, zero_mul]

/-- A maximum of finitely many reals over a nonempty type is real. -/
theorem sup_real [Nonempty A] (s : A → EReal) (h : ∀ a, IsReal (s a)) : IsReal (Finset.univ.sup s) := by
  obtain ⟨a, _, ha⟩ := Finset.exists_mem_eq_sup Finset.univ Finset.univ_nonempty s
  rw [ha]; exact h a

/-- The largest score of two families of reals is real. -/
theorem top2_real [Nonempty A] [Nonempty C] (s : A → EReal) (u : C → EReal) (hs : ∀ a, IsReal (s a)) (hu : ∀ c, IsReal (u c)) :
    IsReal (top2 s u) := by
  unfold top2
  rcases max_choice (Finset.univ.sup s) (Finset.univ.sup u) with h | h <;> rw [h]
  · exact sup_real s hs
  · exact sup_real u hu

/-- A sum of weights of real scores is a nonnegative real, positive over a nonempty type. -/
theorem weights_real [Nonempty A] (s : A → EReal) (M : ℝ) (hs : ∀ a, IsReal (s a)) :
    ∃ d : ℝ, 0 < d ∧ ∑ a, Ideal.exp (s a - (M : EReal)) = (d : EReal) := by
  choose r hr using hs
  refine ⟨∑ a, Real.exp (r a - M), Finset.sum_pos (fun a _ => Real.exp_pos _) Finset.univ_nonempty, ?_⟩
  have e : ∀ a, Ideal.exp (s a - (M : EReal)) = ((Real.exp (r a - M) : ℝ) : EReal) := fun a => by
    rw [hr a, ← EReal.coe_sub]; exact Ideal.exp_coe ..
  simp only [e]
  classical
  generalize (Finset.univ : Finset A) = t
  induction t using Finset.induction_on with
  | empty => simp
  | insert a t ha ih => rw [Finset.sum_insert ha, Finset.sum_insert ha, ih, EReal.coe_add]

/-- With real scores the sum of the weights is a positive real. -/
theorem den2_real [Nonempty A] [Nonempty C] (s : A → EReal) (u : C → EReal) (hs : ∀ a, IsReal (s a)) (hu : ∀ c, IsReal (u c)) :
    ∃ d : ℝ, 0 < d ∧ den2 s u (top2 s u) = (d : EReal) := by
  obtain ⟨M, hM⟩ := top2_real s u hs hu
  obtain ⟨d, hd, e⟩ := weights_real s M hs
  obtain ⟨d', hd', e'⟩ := weights_real u M hu
  exact ⟨d + d', add_pos hd hd', by rw [den2, hM, e, e', EReal.coe_add]⟩

/-- With real scores dividing before and after the weighted sum agree. -/
theorem divAfter_eq_divBefore [Nonempty A] [Nonempty C] (s v : A → EReal) (u w : C → EReal)
    (hs : ∀ a, IsReal (s a)) (hu : ∀ c, IsReal (u c)) : divAfter s v u w = divBefore s v u w := by
  obtain ⟨d, hd, e⟩ := den2_real s u hs hu
  have hi : (0 : ℝ) ≤ 1 / d := by positivity
  unfold divAfter divBefore
  rw [e]
  simp only [Ideal.div_coe hd.ne']
  rw [EReal.right_distrib_of_nonneg_of_ne_top (by exact_mod_cast hi) (EReal.coe_ne_top _), sum_mul_real _ _ _ hi, sum_mul_real _ _ _ hi]
  congr 1 <;> exact Finset.sum_congr rfl fun a _ => by rw [mul_right_comm]

/-- Softmax with the division first only depends on the window. -/
theorem divBefore_window [Nonempty W] [Nonempty C] (e : W → A) (he : Function.Injective e) (s v : A → EReal) (u w : C → EReal)
    (h : ∀ a, (∀ x, e x ≠ a) → s a = ⊥) (hs : ∀ x, IsReal (s (e x))) (hu : ∀ c, IsReal (u c)) :
    divBefore s v u w = divBefore (fun x => s (e x)) (fun x => v (e x)) u w := by
  have ht : top2 s u = top2 (fun x => s (e x)) u := by rw [top2, top2, sup_window e s h]
  have hd : den2 s u (top2 s u) = den2 (fun x => s (e x)) u (top2 (fun x => s (e x)) u) := by
    unfold den2
    rw [ht, sum_window e he (fun a => Ideal.exp (s a - top2 (fun x => s (e x)) u))]
    intro a ha; rw [h a ha, exp_bot_sub]
  obtain ⟨d, hdp, ed⟩ := den2_real (fun x => s (e x)) u hs hu
  unfold divBefore
  rw [hd, ht, ed, sum_window e he (fun a => Ideal.div (Ideal.exp (s a - top2 (fun x => s (e x)) u)) (d : EReal) * v a)]
  intro a ha; rw [h a ha, exp_bot_sub, div_zero_left d hdp.ne', zero_mul]

/-- The two softmaxes agree when their near families hold the same real scores and values on a common window, are
    bottom outside of it, and the far families coincide and are real. -/
theorem softmax_eq [Nonempty W] [Nonempty C] (eA : W → A) (hA : Function.Injective eA) (eB : W → B) (hB : Function.Injective eB)
    (sA vA : A → EReal) (sB vB : B → EReal) (u w : C → EReal)
    (oA : ∀ a, (∀ x, eA x ≠ a) → sA a = ⊥) (oB : ∀ b, (∀ x, eB x ≠ b) → sB b = ⊥)
    (hs : ∀ x, sA (eA x) = sB (eB x)) (hv : ∀ x, vA (eA x) = vB (eB x))
    (hr : ∀ x, IsReal (sB (eB x))) (hu : ∀ c, IsReal (u c)) :
    divAfter sA vA u w = divBefore sB vB u w := by
  rw [divAfter_window eA hA sA vA u w oA, divBefore_window eB hB sB vB u w oB hr hu]
  simp only [hs, hv]
  exact divAfter_eq_divBefore _ _ _ _ hr hu

end

end Cert.NaSoftmax
-- ==== Proof.NaFinite.lean ====
module

public import proofs.«01_k».proof.Proof.NaSoftmax
public import proofs.«01_k».proof.Proof.Gen.Pre_na_finite
public import Idealize.ShloMosaic.Lib.ReduceAll

@[expose] public section

set_option maxRecDepth 65536

noncomputable section

namespace Cert.NaFinite

open Cert.Pre_na_finite Idealize.ShloMosaic Cert.NaSoftmax

/-- A value whose magnitude is below infinity is a real number. -/
theorem isReal_of_lt (x : EReal) (h : Ideal.cmp .olt (max x (-x)) (Ideal.ofBits FTy.f32 0x7F800000#32) = 1#1) : IsReal x := by
  have htop : Ideal.ofBits FTy.f32 0x7F800000#32 = (⊤ : EReal) := by simp [Ideal.ofBits, Ideal.ieee]
  rw [htop] at h
  induction x using EReal.rec with
  | bot => exact absurd h (by simp [Ideal.cmp])
  | top => exact absurd h (by simp [Ideal.cmp])
  | coe r => exact ⟨r, rfl⟩

/-- Under the precondition the queries, the keys and the bias table hold real numbers. -/
theorem real_of_pre [Facts] (a0 a1 a2 : FVec Ideal S34816x512 .bf16) (a3 : FVec Ideal S8x15x31 .f32)
    (h : Cert.Pre_na_finite.fn (F := Ideal) a0 a1 a2 a3 = fun _ => 1#1) :
    (∀ i, IsReal (a0 i)) ∧ (∀ i, IsReal (a1 i)) ∧ ∀ i, IsReal (a3 i) := by
  have j : S_.Idx := fun a => a.elim0
  haveI : Subsingleton S_.Idx := ⟨fun a b => funext fun x => x.elim0⟩
  have h := congrFun h j
  unfold Cert.Pre_na_finite.fn at h
  dsimp only at h
  obtain ⟨h1, h2⟩ := IntOp.andi_eq_one.mp h
  obtain ⟨h3, h4⟩ := IntOp.andi_eq_one.mp h1
  exact ⟨fun k => isReal_of_lt _ (Host.reduce_andi_all _ _ _ _ j h3 k), fun k => isReal_of_lt _ (Host.reduce_andi_all _ _ _ _ j h4 k),
    fun k => isReal_of_lt _ (Host.reduce_andi_all _ _ _ _ j h2 k)⟩

end Cert.NaFinite

end
-- ==== Proof.NaGather.lean ====
module

public import proofs.«01_k».proof.Proof.Gen.NaRefIdeal.Run
public import proofs.«01_k».proof.Proof.Gen.NaIdeal.Value
public import Idealize.ShloMosaic.Lib.Pipeline.ValueKit
public import Idealize.ShloMosaic.Lib.Pointwise

@[expose] public section

set_option maxRecDepth 65536

noncomputable section

namespace Cert.NaGather

open Idealize.ShloMosaic Idealize.ShloMosaic.TcCoe Idealize.SL.Sem

/-- A gather at a result index reads the operand at the index whose coordinates are the clamped start, the batch
    and the offset coordinates added up. -/
theorem gather_of {α : Type} {s si t : Shape} {w : ℕ} (d : GatherDims s si t) (x : s.Idx → α) (i : IVec si w) (j : t.Idx) (k : s.Idx)
    (h : ∀ a, d.start j i a + d.batchCoord j a + d.offCoord j a = k a) : Host.gather d x i j = x k := by
  unfold Host.gather
  exact congrArg x (funext fun a => Fin.ext (h a))

section
open Cert.NaRefIdeal Cert.NaRefIdeal.Gen

/-- The gather of key rows, read at an index. -/
theorem rows_at {α : Type} (x : S8x8x64x64x64.Idx → α) (i : IVec S64x8x1 32) (j : S8x8x64x8x64x64.Idx) (n : Fin 64)
    (hn : min (i (ix3 (j 2) (j 3) 0 : S64x8x1.Idx)).toInt.toNat 63 = (n : ℕ)) :
    Host.gather gather_S8x8x64x64x64_S64x8x1_S8x8x64x8x64x64_0145_2_n_n_2_2_8816464 x i j = x (ix5 (j 0) (j 1) n (j 4) (j 5) : S8x8x64x64x64.Idx) :=
  gather_of _ x i j _ fun a => match a with
  | ⟨0, _⟩ => Nat.zero_add _
  | ⟨1, _⟩ => Nat.zero_add _
  | ⟨2, _⟩ => by
    refine Eq.trans ?_ hn
    refine congrArg (fun b => min (i b).toInt.toNat 63) (funext fun b => ?_)
    match b with
    | ⟨0, _⟩ => rfl
    | ⟨1, _⟩ => rfl
    | ⟨2, _⟩ => rfl
  | ⟨3, _⟩ => Nat.zero_add _
  | ⟨4, _⟩ => Nat.zero_add _

/-- The gather of key columns, read at an index. -/
theorem cols_at {α : Type} (x : S8x8x64x8x64x64.Idx → α) (i : IVec S4x32x1 32) (j : S8x8x64x8x4x32x64.Idx) (n : Fin 64)
    (hn : min (i (ix3 (j 4) (j 5) 0 : S4x32x1.Idx)).toInt.toNat 63 = (n : ℕ)) :
    Host.gather gather_S8x8x64x8x64x64_S4x32x1_S8x8x64x8x4x32x64_01236_4_n_n_4_2_88648164 x i j = x (ix6 (j 0) (j 1) (j 2) (j 3) n (j 6) : S8x8x64x8x64x64.Idx) :=
  gather_of _ x i j _ fun a => match a with
  | ⟨0, _⟩ => Nat.zero_add _
  | ⟨1, _⟩ => Nat.zero_add _
  | ⟨2, _⟩ => Nat.zero_add _
  | ⟨3, _⟩ => Nat.zero_add _
  | ⟨4, _⟩ => by
    refine Eq.trans ?_ hn
    refine congrArg (fun b => min (i b).toInt.toNat 63) (funext fun b => ?_)
    match b with
    | ⟨0, _⟩ => rfl
    | ⟨1, _⟩ => rfl
    | ⟨2, _⟩ => rfl
  | ⟨5, _⟩ => Nat.zero_add _

/-- The gather of bias columns, read at an index. -/
theorem biasCol_at {α : Type} (x : S8x15x31.Idx → α) (i : IVec S4x16x32x1 32) (j : S8x15x4x16x32.Idx) (n : Fin 31)
    (hn : min (i (ix4 (j 2) (j 3) (j 4) 0 : S4x16x32x1.Idx)).toInt.toNat 30 = (n : ℕ)) :
    Host.gather gather_S8x15x31_S4x16x32x1_S8x15x4x16x32_01_2_n_n_2_3_8151 x i j = x (ix3 (j 0) (j 1) n : S8x15x31.Idx) :=
  gather_of _ x i j _ fun a => match a with
  | ⟨0, _⟩ => Nat.zero_add _
  | ⟨1, _⟩ => Nat.zero_add _
  | ⟨2, _⟩ => by
    refine Eq.trans ?_ hn
    refine congrArg (fun b => min (i b).toInt.toNat 30) (funext fun b => ?_)
    match b with
    | ⟨0, _⟩ => rfl
    | ⟨1, _⟩ => rfl
    | ⟨2, _⟩ => rfl
    | ⟨3, _⟩ => rfl

/-- The gather of bias rows, read at an index. -/
theorem biasRow_at {α : Type} (x : S8x15x4x16x32.Idx → α) (i : IVec S64x8x1 32) (j : S8x64x8x4x16x32.Idx) (n : Fin 15)
    (hn : min (i (ix3 (j 1) (j 2) 0 : S64x8x1.Idx)).toInt.toNat 14 = (n : ℕ)) :
    Host.gather gather_S8x15x4x16x32_S64x8x1_S8x64x8x4x16x32_0345_1_n_n_1_2_8141632 x i j = x (ix5 (j 0) n (j 3) (j 4) (j 5) : S8x15x4x16x32.Idx) :=
  gather_of _ x i j _ fun a => match a with
  | ⟨0, _⟩ => Nat.zero_add _
  | ⟨1, _⟩ => by
    refine Eq.trans ?_ hn
    refine congrArg (fun b => min (i b).toInt.toNat 14) (funext fun b => ?_)
    match b with
    | ⟨0, _⟩ => rfl
    | ⟨1, _⟩ => rfl
    | ⟨2, _⟩ => rfl
  | ⟨2, _⟩ => Nat.zero_add _
  | ⟨3, _⟩ => Nat.zero_add _
  | ⟨4, _⟩ => Nat.zero_add _

end

section
open Cert.NaIdeal Cert.NaIdeal.Gen

/-- The gather of the kernel's bias columns, read at an index. -/
theorem kBiasCol_at {α : Type} (x : S8x15x31.Idx → α) (i : IVec S64x64x1 32) (j : S8x15x64x64.Idx) (n : Fin 31)
    (hn : min (i (ix3 (j 2) (j 3) 0 : S64x64x1.Idx)).toInt.toNat 30 = (n : ℕ)) :
    Host.gather gather_S8x15x31_S64x64x1_S8x15x64x64_01_2_n_n_2_2_8151 x i j = x (ix3 (j 0) (j 1) n : S8x15x31.Idx) :=
  gather_of _ x i j _ fun a => match a with
  | ⟨0, _⟩ => Nat.zero_add _
  | ⟨1, _⟩ => Nat.zero_add _
  | ⟨2, _⟩ => by
    refine Eq.trans ?_ hn
    refine congrArg (fun b => min (i b).toInt.toNat 30) (funext fun b => ?_)
    match b with
    | ⟨0, _⟩ => rfl
    | ⟨1, _⟩ => rfl
    | ⟨2, _⟩ => rfl

/-- The gather of the kernel's bias rows, read at an index. -/
theorem kBiasRow_at {α : Type} (x : S8x15x64x64.Idx → α) (i : IVec S3x4x11x1 32) (j : S8x3x4x11x64x64.Idx) (n : Fin 15)
    (hn : min (i (ix4 (j 1) (j 2) (j 3) 0 : S3x4x11x1.Idx)).toInt.toNat 14 = (n : ℕ)) :
    Host.gather gather_S8x15x64x64_S3x4x11x1_S8x3x4x11x64x64_045_1_n_n_1_3_816464 x i j = x (ix4 (j 0) n (j 4) (j 5) : S8x15x64x64.Idx) :=
  gather_of _ x i j _ fun a => match a with
  | ⟨0, _⟩ => Nat.zero_add _
  | ⟨1, _⟩ => by
    refine Eq.trans ?_ hn
    refine congrArg (fun b => min (i b).toInt.toNat 14) (funext fun b => ?_)
    match b with
    | ⟨0, _⟩ => rfl
    | ⟨1, _⟩ => rfl
    | ⟨2, _⟩ => rfl
    | ⟨3, _⟩ => rfl
  | ⟨2, _⟩ => Nat.zero_add _
  | ⟨3, _⟩ => Nat.zero_add _

end

end Cert.NaGather
-- ==== Proof.NaSpec.lean ====
module

public import proofs.«01_k».proof.Proof.NaSoftmax

@[expose] public section

noncomputable section

namespace Cert.NaSpec

open Idealize.ShloMosaic Cert.NaSoftmax

/-- The shape of the queries, the keys and the values. -/
abbrev SX : Shape := ⟨2, ![34816, 512]⟩
/-- The shape of the table of relative positions. -/
abbrev SR : Shape := ⟨3, ![8, 15, 31]⟩

/-- An array of tokens read at two plain numbers, zero outside of it. -/
def at2 (X : SX.Idx → EReal) (n j : ℕ) : EReal :=
  if h : n < 34816 ∧ j < 512 then X (ix2 ⟨n, h.1⟩ ⟨j, h.2⟩ : SX.Idx) else 0

/-- The table of relative positions read at three plain numbers, zero outside of it. -/
def at3 (R : SR.Idx → EReal) (h i j : ℕ) : EReal :=
  if p : h < 8 ∧ i < 15 ∧ j < 31 then R (ix3 ⟨h, p.1⟩ ⟨i, p.2.1⟩ ⟨j, p.2.2⟩ : SR.Idx) else 0

/-- An entry of an array of tokens, by its coordinates. -/
theorem at2_of (X : SX.Idx → EReal) (i : SX.Idx) {n j : ℕ} (hn : (i 0 : ℕ) = n) (hj : (i 1 : ℕ) = j) : X i = at2 X n j := by
  subst hn hj
  unfold at2
  rw [dif_pos ⟨(i 0).isLt, (i 1).isLt⟩]
  exact congrArg X (funext fun a => match a with | ⟨0, _⟩ => rfl | ⟨1, _⟩ => rfl)

/-- An entry of the table, by its coordinates. -/
theorem at3_of (R : SR.Idx → EReal) (i : SR.Idx) {h x y : ℕ} (hh : (i 0 : ℕ) = h) (hx : (i 1 : ℕ) = x) (hy : (i 2 : ℕ) = y) :
    R i = at3 R h x y := by
  subst hh hx hy
  unfold at3
  rw [dif_pos ⟨(i 0).isLt, (i 1).isLt, (i 2).isLt⟩]
  exact congrArg R (funext fun a => match a with | ⟨0, _⟩ => rfl | ⟨1, _⟩ => rfl | ⟨2, _⟩ => rfl)

/-- The reads of an array of reals are real. -/
theorem at2_real (X : SX.Idx → EReal) (hX : ∀ i, IsReal (X i)) (n j : ℕ) : IsReal (at2 X n j) := by
  unfold at2; split
  · exact hX _
  · exact IsReal.zero

/-- The reads of a table of reals are real. -/
theorem at3_real (R : SR.Idx → EReal) (hR : ∀ i, IsReal (R i)) (h i j : ℕ) : IsReal (at3 R h i j) := by
  unfold at3; split
  · exact hR _
  · exact IsReal.zero

/-- The scaled product of query `n` and key `k` in head `h`. -/
def dotq (Q K : SX.Idx → EReal) (n k h : ℕ) : EReal :=
  (∑ e : Fin 64, at2 Q n (64 * h + e) * at2 K k (64 * h + e)) * Ideal.ofBits FTy.f32 0x3E000000#32

/-- The scale is a real. -/
theorem scale_real : IsReal (Ideal.ofBits FTy.f32 0x3E000000#32) := by
  unfold Ideal.ofBits Ideal.ieee
  dsimp only
  rw [if_neg (by decide), if_neg (by decide)]
  exact ⟨_, rfl⟩

/-- A scaled product of reals is real. -/
theorem dotq_real (Q K : SX.Idx → EReal) (hQ : ∀ i, IsReal (Q i)) (hK : ∀ i, IsReal (K i)) (n k h : ℕ) : IsReal (dotq Q K n k h) :=
  (IsReal.sum _ _ fun e => (at2_real Q hQ _ _).mul (at2_real K hK _ _)).mul scale_real

/-- The first key row that a group of four query rows reads. -/
def u0 (r : ℕ) : ℕ := min 53 (4 * (r / 4) - 4)
/-- The first row of the window of query row `r`. -/
def rs (r : ℕ) : ℕ := min 56 (r - 4)
/-- The first column of the window of query column `c`. -/
def cs (c : ℕ) : ℕ := min 48 (c - 8)
/-- The first column of the band of 32 key columns that query column `c` reads. -/
def kb (c : ℕ) : ℕ := min 32 (16 * (c / 16) - 8)

/-- The window's rows lie among the group's. -/
theorem rows_le (r : ℕ) (hr : r < 64) : u0 r ≤ rs r ∧ rs r ≤ u0 r + 3 ∧ u0 r ≤ 53 := by
  unfold u0 rs; omega

/-- The window's columns lie in the band. -/
theorem cols_le (c : ℕ) (hc : c < 64) : kb c ≤ cs c ∧ cs c ≤ kb c + 16 ∧ cs c ≤ 48 := by
  unfold cs kb; omega

/-- The kernel's bias of key `x` of the 704 that a group reads: the table inside the window, bottom outside. -/
def kBias (R : SR.Idx → EReal) (r c h x : ℕ) : EReal :=
  if (rs r ≤ u0 r + x / 64 ∧ u0 r + x / 64 < rs r + 8) ∧ cs c ≤ x % 64 ∧ x % 64 < cs c + 16
  then at3 R h (u0 r + x / 64 + 7 - r) (x % 64 + 15 - c) else ⊥

/-- The kernel's score of key `x` of the 704 that a group reads. -/
def kScore (Q K : SX.Idx → EReal) (R : SR.Idx → EReal) (b r c h x : ℕ) : EReal :=
  dotq Q K (4096 * b + 64 * r + c) (4096 * b + 64 * u0 r + x) h + kBias R r c h x

/-- The reference's score of key `x` of the 256 in the window's rows and the band's columns. -/
def rScore (Q K : SX.Idx → EReal) (R : SR.Idx → EReal) (b r c h x : ℕ) : EReal :=
  if cs c ≤ kb c + x % 32 ∧ kb c + x % 32 < cs c + 16
  then dotq Q K (4096 * b + 64 * r + c) (4096 * b + 64 * (rs r + x / 32) + (kb c + x % 32)) h
    + at3 R h (rs r + x / 32 + 7 - r) (kb c + x % 32 + 15 - c) else ⊥

/-- The score of key `x` of the sequence's context. -/
def cScore (Q K : SX.Idx → EReal) (b r c h x : ℕ) : EReal := dotq Q K (4096 * b + 64 * r + c) (32768 + 256 * b + x) h

/-- An entry of the kernel's attention: sequence `b`, row `r`, column `c`, head `h`, feature `d`. -/
def kernelAt (Q K V : SX.Idx → EReal) (R : SR.Idx → EReal) (b r c h d : ℕ) : EReal :=
  divAfter (fun x : Fin 704 => kScore Q K R b r c h x) (fun x : Fin 704 => at2 V (4096 * b + 64 * u0 r + x) (64 * h + d))
    (fun x : Fin 256 => cScore Q K b r c h x) (fun x : Fin 256 => at2 V (32768 + 256 * b + x) (64 * h + d))

/-- An entry of the reference's attention. -/
def refAt (Q K V : SX.Idx → EReal) (R : SR.Idx → EReal) (b r c h d : ℕ) : EReal :=
  divBefore (fun x : Fin 256 => rScore Q K R b r c h x)
    (fun x : Fin 256 => at2 V (4096 * b + 64 * (rs r + x / 32) + (kb c + x % 32)) (64 * h + d))
    (fun x : Fin 256 => cScore Q K b r c h x) (fun x : Fin 256 => at2 V (32768 + 256 * b + x) (64 * h + d))

/-- The window's place among the kernel's 704 keys. -/
def inGroup (r c : ℕ) (hr : r < 64) (hc : c < 64) (w : Fin 8 × Fin 16) : Fin 704 :=
  ⟨(rs r + w.1 - u0 r) * 64 + (cs c + w.2), by have := rows_le r hr; have := cols_le c hc; have := w.1.isLt; have := w.2.isLt; omega⟩

/-- The window's place among the reference's 256 keys. -/
def inBand (c : ℕ) (hc : c < 64) (w : Fin 8 × Fin 16) : Fin 256 :=
  ⟨w.1 * 32 + (cs c + w.2 - kb c), by have := cols_le c hc; have := w.1.isLt; have := w.2.isLt; omega⟩

/-- The number of the kernel's key at a place of the window. -/
theorem inGroup_val (r c : ℕ) (hr : r < 64) (hc : c < 64) (w : Fin 8 × Fin 16) :
    (inGroup r c hr hc w : ℕ) = (rs r + w.1 - u0 r) * 64 + (cs c + w.2) := by unfold inGroup; rfl

/-- The number of the reference's key at a place of the window. -/
theorem inBand_val (c : ℕ) (hc : c < 64) (w : Fin 8 × Fin 16) : (inBand c hc w : ℕ) = w.1 * 32 + (cs c + w.2 - kb c) := by unfold inBand; rfl

/-- On real queries, keys and biases the kernel's attention is the reference's. -/
theorem kernel_eq_ref (Q K V : SX.Idx → EReal) (R : SR.Idx → EReal) (hQ : ∀ i, IsReal (Q i)) (hK : ∀ i, IsReal (K i))
    (hR : ∀ i, IsReal (R i)) (b r c h d : ℕ) (hr : r < 64) (hc : c < 64) :
    kernelAt Q K V R b r c h d = refAt Q K V R b r c h d := by
  obtain ⟨r1, r2, r3⟩ := rows_le r hr
  obtain ⟨c1, c2, c3⟩ := cols_le c hc
  unfold kernelAt refAt
  refine softmax_eq (inGroup r c hr hc) ?_ (inBand c hc) ?_ _ _ _ _ _ _ ?_ ?_ ?_ ?_ ?_ ?_
  · rintro ⟨a, k⟩ ⟨a', k'⟩ e
    have e := congrArg Fin.val e
    have := a.isLt; have := k.isLt; have := a'.isLt; have := k'.isLt
    rw [inGroup_val, inGroup_val] at e; dsimp only at e
    exact Prod.ext (Fin.ext (show (a : ℕ) = a' by omega)) (Fin.ext (show (k : ℕ) = k' by omega))
  · rintro ⟨a, k⟩ ⟨a', k'⟩ e
    have e := congrArg Fin.val e
    have := a.isLt; have := k.isLt; have := a'.isLt; have := k'.isLt
    rw [inBand_val, inBand_val] at e; dsimp only at e
    exact Prod.ext (Fin.ext (show (a : ℕ) = a' by omega)) (Fin.ext (show (k : ℕ) = k' by omega))
  · intro x hx
    unfold kScore kBias
    rw [if_neg, EReal.add_bot]
    rintro ⟨⟨h1, h2⟩, h3, h4⟩
    refine hx (⟨u0 r + x / 64 - rs r, by omega⟩, ⟨x % 64 - cs c, by omega⟩) (Fin.ext ?_)
    rw [inGroup_val]; dsimp only
    omega
  · intro x hx
    unfold rScore
    rw [if_neg]
    rintro ⟨h3, h4⟩
    refine hx (⟨x / 32, by have := x.isLt; omega⟩, ⟨kb c + x % 32 - cs c, by omega⟩) (Fin.ext ?_)
    rw [inBand_val]; dsimp only
    omega
  · rintro ⟨a, k⟩
    have := a.isLt; have := k.isLt
    unfold kScore kBias rScore
    rw [inGroup_val, inBand_val]; dsimp only
    rw [if_pos (by omega), if_pos (by omega)]
    congr 2 <;> omega
  · rintro ⟨a, k⟩
    have := a.isLt; have := k.isLt
    rw [inGroup_val, inBand_val]; dsimp only
    congr 1; omega
  · rintro ⟨a, k⟩
    have := a.isLt; have := k.isLt
    unfold rScore
    rw [inBand_val]; dsimp only
    rw [if_pos (by omega)]
    exact (dotq_real Q K hQ hK _ _ _).add (at3_real R hR _ _ _)
  · intro x
    exact dotq_real Q K hQ hK _ _ _

end Cert.NaSpec

end
-- ==== Proof.NaBiasTables.lean ====
module

public import proofs.«01_k».proof.Proof.Gen.NaIdeal.Value
public import Idealize.ShloMosaic.Lib.Pipeline.ValueKit
public import Idealize.ShloMosaic.Lib.Pointwise
public import proofs.«01_k».proof.Proof.NaGather
public import proofs.«01_k».proof.Proof.NaSpec

@[expose] public section

set_option maxRecDepth 65536

noncomputable section

namespace Cert.NaBias

open Cert.NaIdeal Cert.NaIdeal.Gen Idealize.ShloMosaic Idealize.ShloMosaic.TcCoe Idealize.SL.Sem
open Cert.NaSoftmax Cert.NaSpec Cert.NaGather

/-- The keys inside the windows, by variant, row group, query and key. -/
def kMask : IVec S3x256x704 1 :=
  shapeCast _ (andi (broadcastInDim S3x4x64x11x64 ![0, 1, 2, 3, 4] bcast_S3x4x1x11x1_S3x4x64x11x64_0_1_2_3_4
      (broadcastInDim S3x4x1x11x1 ![0, 1, 3] bcast_S3x4x11_S3x4x1x11x1_0_1_3 (fun i => lit0 (S3x4x11.rowMajor i))))
    (broadcastInDim S3x4x64x11x64 ![0, 1, 2, 3, 4] bcast_S1x1x64x1x64_S3x4x64x11x64_0_1_2_3_4
      (broadcastInDim S1x1x64x1x64 ![2, 4] bcast_S64x64_S1x1x64x1x64_2_4 (fun i => lit1 (S64x64.rowMajor i))))) shapeCasts_S3x4x64x11x64_S3x256x704

/-- The relative columns. -/
def kICol : IVec S64x64x1 32 := broadcastInDim S64x64x1 ![0, 1] bcast_S64x64_S64x64x1_0_1 (select (constantI S64x64 1 0#1)
  (addi (fun i => lit2 (S64x64.rowMajor i)) (broadcastInDim S64x64 ![] bcast_S_S64x64 (constantI S_ 32 31#32))) (fun i => lit2 (S64x64.rowMajor i)))

/-- The relative rows. -/
def kIRow : IVec S3x4x11x1 32 := broadcastInDim S3x4x11x1 ![0, 1, 2] bcast_S3x4x11_S3x4x11x1_0_1_2 (select (constantI S3x4x11 1 0#1)
  (addi (fun i => lit3 (S3x4x11.rowMajor i)) (broadcastInDim S3x4x11 ![] bcast_S_S3x4x11 (constantI S_ 32 15#32))) (fun i => lit3 (S3x4x11.rowMajor i)))

/-- The columns of the table of relative positions, gathered. -/
def kCols (R : FVec Ideal S8x15x31 .f32) : FVec Ideal S8x15x64x64 .f32 :=
  Host.gather gather_S8x15x31_S64x64x1_S8x15x64x64_01_2_n_n_2_2_8151 R kICol

/-- The rows and columns of the table of relative positions, gathered. -/
def kRows (R : FVec Ideal S8x15x31 .f32) : FVec Ideal S8x3x4x11x64x64 .f32 :=
  Host.gather gather_S8x15x64x64_S3x4x11x1_S8x3x4x11x64x64_045_1_n_n_1_3_816464 (kCols R) kIRow

/-- The gathered biases by variant, head, query and key. -/
def kVals (R : FVec Ideal S8x15x31 .f32) : FVec Ideal S3x8x256x704 .f32 :=
  shapeCast _ (transpose S3x8x4x64x11x64 [1, 0, 2, 4, 3, 5] (kRows R) transposes_S8x3x4x11x64x64_S3x8x4x64x11x64_1_0_2_4_3_5)
    shapeCasts_S3x8x4x64x11x64_S3x8x256x704

/-- The biases that the kernel reads. -/
def hBias (R : FVec Ideal S8x15x31 .f32) : FVec Ideal S3x8x256x704 .f32 :=
  select (broadcastInDim S3x8x256x704 ![0, 1, 2, 3] bcast_S3x1x256x704_S3x8x256x704_0_1_2_3
      (broadcastInDim S3x1x256x704 ![0, 2, 3] bcast_S3x256x704_S3x1x256x704_0_2_3 kMask)) (kVals R)
    (broadcastInDim S3x8x256x704 ![] bcast_S_S3x8x256x704 (id (constant S_ .f32 0xFF800000#32)))

/-- The variant of the biases that a group of four rows reads. -/
def variant (t : Fin 16) : Fin 3 := if (t : ℕ) = 0 then 0 else if (t : ℕ) = 15 then 2 else 1

/-- The rows inside the windows. -/
theorem rows_ok : ∀ (t : Fin 16) (g : Fin 4) (k : Fin 11), lit0 (S3x4x11.rowMajor (ix3 (variant t) g k : S3x4x11.Idx))
    = if rs (4 * t + g) ≤ u0 (4 * t + g) + k ∧ u0 (4 * t + g) + k < rs (4 * t + g) + 8 then 1#1 else 0#1 := by decide +kernel

/-- The relative rows, inside the windows. -/
theorem kIRow_in : ∀ (t : Fin 16) (g : Fin 4) (k : Fin 11),
    (rs (4 * t + g) ≤ u0 (4 * t + g) + k ∧ u0 (4 * t + g) + k < rs (4 * t + g) + 8) →
    min (kIRow (ix4 (variant t) g k 0 : S3x4x11x1.Idx)).toInt.toNat 14 = u0 (4 * t + g) + k + 7 - (4 * t + g) := by decide +kernel

/-- The columns inside the windows. -/
theorem cols_ok : ∀ (a x : Fin 64), lit1 (S64x64.rowMajor (ix2 a x : S64x64.Idx))
    = if cs a ≤ x ∧ (x : ℕ) < cs a + 16 then 1#1 else 0#1 := by decide +kernel

/-- The relative columns, inside the windows. -/
theorem kICol_in : ∀ (a x : Fin 64), (cs a ≤ x ∧ (x : ℕ) < cs a + 16) →
    min (kICol (ix3 a x 0 : S64x64x1.Idx)).toInt.toNat 30 = x + 15 - a := by decide +kernel

end Cert.NaBias

end
-- ==== Proof.NaBias.lean ====
module

public import proofs.«01_k».proof.Proof.Gen.NaIdeal.Value
public import Idealize.ShloMosaic.Lib.Pipeline.ValueKit
public import Idealize.ShloMosaic.Lib.Pointwise
public import proofs.«01_k».proof.Proof.NaBiasTables
public import proofs.«01_k».proof.Proof.NaGather
public import proofs.«01_k».proof.Proof.NaSpec

@[expose] public section

set_option maxRecDepth 65536

noncomputable section

namespace Cert.NaBias

open Cert.NaIdeal Cert.NaIdeal.Gen Idealize.ShloMosaic Idealize.ShloMosaic.TcCoe Idealize.SL.Sem
open Cert.NaSoftmax Cert.NaSpec Cert.NaGather

/-- The gathered columns of the table. -/
theorem kCols_at (R : FVec Ideal S8x15x31 .f32) (i : S8x15x64x64.Idx) (h : cs (i 2) ≤ (i 3 : ℕ) ∧ (i 3 : ℕ) < cs (i 2) + 16) :
    kCols R i = at3 R (i 0) (i 1) ((i 3 : ℕ) + 15 - (i 2 : ℕ)) := by
  have hc : (i 3 : ℕ) + 15 - (i 2 : ℕ) < 31 := by
    have := h.2; unfold cs at this; omega
  exact (kBiasCol_at R kICol i ⟨_, hc⟩ (kICol_in (i 2) (i 3) h)).trans (at3_of R _ rfl rfl rfl)

/-- The gathered rows and columns of the table. -/
theorem kRows_at (R : FVec Ideal S8x15x31 .f32) (i : S8x3x4x11x64x64.Idx) (t : Fin 16) (ht : i 1 = variant t)
    (hr : rs (4 * t + i 2) ≤ u0 (4 * t + i 2) + i 3 ∧ u0 (4 * t + i 2) + i 3 < rs (4 * t + i 2) + 8)
    (h : cs (i 4) ≤ (i 5 : ℕ) ∧ (i 5 : ℕ) < cs (i 4) + 16) :
    kRows R i = at3 R (i 0) (u0 (4 * t + i 2) + i 3 + 7 - (4 * t + i 2)) ((i 5 : ℕ) + 15 - (i 4 : ℕ)) := by
  have h2 : (i 2 : ℕ) < 4 := (i 2).isLt
  have hb : u0 (4 * t + i 2) + i 3 + 7 - (4 * t + i 2) < 15 := by
    have := hr.2; unfold rs at this; omega
  refine (kBiasRow_at (kCols R) kIRow i ⟨_, hb⟩ ?_).trans (kCols_at R _ h)
  rw [ht]
  exact kIRow_in t (i 2) (i 3) hr

/-- An entry of the gathered biases. -/
theorem kVals_at (R : FVec Ideal S8x15x31 .f32) (i : S3x8x256x704.Idx) (t : Fin 16) (ht : i 0 = variant t)
    (hr : rs (4 * t + (i 2 : ℕ) / 64) ≤ u0 (4 * t + (i 2 : ℕ) / 64) + (i 3 : ℕ) / 64 ∧ u0 (4 * t + (i 2 : ℕ) / 64) + (i 3 : ℕ) / 64 < rs (4 * t + (i 2 : ℕ) / 64) + 8)
    (h : cs ((i 2 : ℕ) % 64) ≤ (i 3 : ℕ) % 64 ∧ (i 3 : ℕ) % 64 < cs ((i 2 : ℕ) % 64) + 16) :
    kVals R i = at3 R (i 1) (u0 (4 * t + (i 2 : ℕ) / 64) + (i 3 : ℕ) / 64 + 7 - (4 * t + (i 2 : ℕ) / 64)) ((i 3 : ℕ) % 64 + 15 - (i 2 : ℕ) % 64) := by
  pointwise [kVals]
  exact kRows_at R _ t ht hr h

/-- An entry of the mask. -/
theorem kMask_at (i : S3x256x704.Idx) :
    kMask i = IntOp.andi (lit0 (S3x4x11.rowMajor (ix3 (i 0) ⟨(i 1 : ℕ) / 64, by have : (i 1 : ℕ) < 256 := (i 1).isLt; omega⟩
        ⟨(i 2 : ℕ) / 64, by have : (i 2 : ℕ) < 704 := (i 2).isLt; omega⟩ : S3x4x11.Idx)))
      (lit1 (S64x64.rowMajor (ix2 ⟨(i 1 : ℕ) % 64, Nat.mod_lt _ (by decide)⟩ ⟨(i 2 : ℕ) % 64, Nat.mod_lt _ (by decide)⟩ : S64x64.Idx))) := by
  pointwise [kMask]

/-- An entry of the biases, by the rows and columns of the query and the key. -/
theorem hBias_at (R : FVec Ideal S8x15x31 .f32) (i : S3x8x256x704.Idx) (t : Fin 16) (ht : i 0 = variant t) :
    hBias R i = kBias R (4 * t + (i 2 : ℕ) / 64) ((i 2 : ℕ) % 64) (i 1) (i 3) := by
  have h2 : (i 2 : ℕ) < 256 := (i 2).isLt
  have h3 : (i 3 : ℕ) < 704 := (i 3).isLt
  have eM := kMask_at (ix3 (i 0) (i 2) (i 3) : S3x256x704.Idx)
  have eR := rows_ok t ⟨(i 2 : ℕ) / 64, by omega⟩ ⟨(i 3 : ℕ) / 64, by omega⟩
  have eC := cols_ok ⟨(i 2 : ℕ) % 64, by omega⟩ ⟨(i 3 : ℕ) % 64, by omega⟩
  have hV := kVals_at R i t ht
  unfold hBias
  generalize kVals R = W at hV ⊢
  pointwise
  rw [← ht] at eR
  refine (congrArg (fun w => Scalar.select w _ _) (eM.trans (congrArg₂ IntOp.andi eR eC))).trans ?_
  unfold kBias
  by_cases hr : rs (4 * t + (i 2 : ℕ) / 64) ≤ u0 (4 * t + (i 2 : ℕ) / 64) + (i 3 : ℕ) / 64 ∧ u0 (4 * t + (i 2 : ℕ) / 64) + (i 3 : ℕ) / 64 < rs (4 * t + (i 2 : ℕ) / 64) + 8
  · by_cases hc : cs ((i 2 : ℕ) % 64) ≤ (i 3 : ℕ) % 64 ∧ (i 3 : ℕ) % 64 < cs ((i 2 : ℕ) % 64) + 16
    · refine (congrArg (fun w => Scalar.select w _ _) (congrArg₂ IntOp.andi (if_pos hr) (if_pos hc))).trans ?_
      exact (hV hr hc).trans (if_pos ⟨hr, hc⟩).symm
    · refine (congrArg (fun w => Scalar.select w _ _) (congrArg₂ IntOp.andi (if_pos hr) (if_neg hc))).trans ?_
      exact ninf_eq.trans (if_neg fun h => hc h.2).symm
  · by_cases hc : cs ((i 2 : ℕ) % 64) ≤ (i 3 : ℕ) % 64 ∧ (i 3 : ℕ) % 64 < cs ((i 2 : ℕ) % 64) + 16
    · refine (congrArg (fun w => Scalar.select w _ _) (congrArg₂ IntOp.andi (if_neg hr) (if_pos hc))).trans ?_
      exact ninf_eq.trans (if_neg fun h => hr h.1).symm
    · refine (congrArg (fun w => Scalar.select w _ _) (congrArg₂ IntOp.andi (if_neg hr) (if_neg hc))).trans ?_
      exact ninf_eq.trans (if_neg fun h => hr h.1).symm

end Cert.NaBias

end
-- ==== Proof.NaBiasHost.lean ====
module

public import proofs.«01_k».proof.Proof.Gen.NaIdeal.Value
public import Idealize.ShloMosaic.Lib.Pipeline.ValueKit
public import Idealize.ShloMosaic.Lib.Pointwise
public import proofs.«01_k».proof.Proof.NaBiasTables
public import proofs.«01_k».proof.Proof.NaGather
public import proofs.«01_k».proof.Proof.NaSpec

@[expose] public section

set_option maxRecDepth 65536

noncomputable section

namespace Cert.NaBias

open Cert.NaIdeal Cert.NaIdeal.Gen Idealize.ShloMosaic Idealize.ShloMosaic.TcCoe Idealize.SL.Sem
open Cert.NaSoftmax Cert.NaSpec Cert.NaGather

variable (m : (ℓ : Loc nD τ sig) → Buf (Elt Ideal) ℓ)

set_option maxHeartbeats 0 in
/-- The array of biases at the call. -/
theorem bias_eq (c : Dev nD) : V m c main_v19 = hBias (m ((c.tc : Thread nD τ).loc main_arg3)) := rfl

/-- The array of zeros at the call. -/
theorem zeros_eq (c : Dev nD) : V m c main_v21 = broadcastInDim S34816x512 ![] bcast_S_S34816x512 (constant (F := Ideal) S_ .bf16 0x0000#16) := rfl

end Cert.NaBias

end
-- ==== Proof.NaBlk.lean ====
module

public import proofs.«01_k».proof.Proof.NaBias
public import proofs.«01_k».proof.Proof.NaBiasHost

@[expose] public section

set_option maxRecDepth 65536

noncomputable section

namespace Cert.NaBlk

open Cert.NaIdeal Cert.NaIdeal.Gen Idealize.ShloMosaic Idealize.ShloMosaic.TcCoe Idealize.SL.Sem
open Idealize.ShloMosaic.Pipeline (Dat)
open Cert.NaSoftmax Cert.NaSpec Cert.NaBias

/-- The place of a grid point among the sixteen of its sequence. -/
def tile (t : Fin cfg0.N) : Fin 16 := ⟨(t : ℕ) % 16, Nat.mod_lt _ (by decide)⟩

/-- The blocks that the windows read and write at every grid point. -/
theorem idx : ∀ t : Fin cfg0.N, ((cfg0.win 0).index t = ![(t : ℕ), 0]) ∧ ((cfg0.win 1).index t = ![(t : ℕ) / 16, 0])
    ∧ ((cfg0.win 2).index t = ![(t : ℕ) / 16, 0]) ∧ ((cfg0.win 3).index t = ![128 + (t : ℕ) / 16, 0])
    ∧ ((cfg0.win 4).index t = ![128 + (t : ℕ) / 16, 0]) ∧ ((cfg0.win 5).index t = ![(variant (tile t) : ℕ), 0, 0, 0])
    ∧ ((cfg0.win 6).index t = ![(t : ℕ), 0]) :=
  (by decide +kernel : ∀ t : Fin grid0.N, (win0_0.index t = ![(t : ℕ), 0]) ∧ (win0_1.index t = ![(t : ℕ) / 16, 0])
    ∧ (win0_2.index t = ![(t : ℕ) / 16, 0]) ∧ (win0_3.index t = ![128 + (t : ℕ) / 16, 0])
    ∧ (win0_4.index t = ![128 + (t : ℕ) / 16, 0]) ∧ (win0_5.index t = ![(variant ⟨(t : ℕ) % 16, Nat.mod_lt _ (by decide)⟩ : ℕ), 0, 0, 0])
    ∧ (win0_6.index t = ![(t : ℕ), 0]))

/-- Where head 0 reads its keys and values. -/
theorem off0 : ∀ t : Fin cfg0.N, k0_off1 (grid0.coords t) = ![64 * u0 (4 * ((t : ℕ) % 16)), 0] :=
  (by decide +kernel : ∀ t : Fin grid0.N, k0_off1 (grid0.coords t) = ![64 * u0 (4 * ((t : ℕ) % 16)), 0])

/-- Where head 1 reads its keys and values. -/
theorem off1 : ∀ t : Fin cfg0.N, k0_off2 (grid0.coords t) = ![64 * u0 (4 * ((t : ℕ) % 16)), 64] :=
  (by decide +kernel : ∀ t : Fin grid0.N, k0_off2 (grid0.coords t) = ![64 * u0 (4 * ((t : ℕ) % 16)), 64])

/-- Where head 2 reads its keys and values. -/
theorem off2 : ∀ t : Fin cfg0.N, k0_off3 (grid0.coords t) = ![64 * u0 (4 * ((t : ℕ) % 16)), 128] :=
  (by decide +kernel : ∀ t : Fin grid0.N, k0_off3 (grid0.coords t) = ![64 * u0 (4 * ((t : ℕ) % 16)), 128])

/-- Where head 3 reads its keys and values. -/
theorem off3 : ∀ t : Fin cfg0.N, k0_off4 (grid0.coords t) = ![64 * u0 (4 * ((t : ℕ) % 16)), 192] :=
  (by decide +kernel : ∀ t : Fin grid0.N, k0_off4 (grid0.coords t) = ![64 * u0 (4 * ((t : ℕ) % 16)), 192])

/-- Where head 4 reads its keys and values. -/
theorem off4 : ∀ t : Fin cfg0.N, k0_off5 (grid0.coords t) = ![64 * u0 (4 * ((t : ℕ) % 16)), 256] :=
  (by decide +kernel : ∀ t : Fin grid0.N, k0_off5 (grid0.coords t) = ![64 * u0 (4 * ((t : ℕ) % 16)), 256])

/-- Where head 5 reads its keys and values. -/
theorem off5 : ∀ t : Fin cfg0.N, k0_off6 (grid0.coords t) = ![64 * u0 (4 * ((t : ℕ) % 16)), 320] :=
  (by decide +kernel : ∀ t : Fin grid0.N, k0_off6 (grid0.coords t) = ![64 * u0 (4 * ((t : ℕ) % 16)), 320])

/-- Where head 6 reads its keys and values. -/
theorem off6 : ∀ t : Fin cfg0.N, k0_off7 (grid0.coords t) = ![64 * u0 (4 * ((t : ℕ) % 16)), 384] :=
  (by decide +kernel : ∀ t : Fin grid0.N, k0_off7 (grid0.coords t) = ![64 * u0 (4 * ((t : ℕ) % 16)), 384])

/-- Where head 7 reads its keys and values. -/
theorem off7 : ∀ t : Fin cfg0.N, k0_off8 (grid0.coords t) = ![64 * u0 (4 * ((t : ℕ) % 16)), 448] :=
  (by decide +kernel : ∀ t : Fin grid0.N, k0_off8 (grid0.coords t) = ![64 * u0 (4 * ((t : ℕ) % 16)), 448])

variable (m : (ℓ : Loc nD τ sig) → Buf (Elt Ideal) ℓ)

/-- A block of queries. -/
theorem blk0 (c : Dev nD) (t : Fin cfg0.N) (r : Fin 256) (n : Fin 512) :
    iblk m c 0 t (ix2 r n : S256x512.Idx) = at2 (m ((c.tc : Thread nD τ).loc main_arg0)) (256 * (t : ℕ) + r) n := by
  refine (?_ : _ = m ((c.tc : Thread nD τ).loc main_arg0) (ix2 ⟨256 * (t : ℕ) + r, by have := r.isLt; have : (t : ℕ) < 128 := t.isLt; omega⟩ n : S34816x512.Idx)).trans (at2_of _ _ rfl rfl)
  blk_point [iblk, V, idx t]

/-- A sequence's keys. -/
theorem blk1 (c : Dev nD) (t : Fin cfg0.N) (r : Fin 4096) (n : Fin 512) :
    X0_1 m c t (ix2 r n : S4096x512.Idx) = at2 (m ((c.tc : Thread nD τ).loc main_arg1)) (4096 * ((t : ℕ) / 16) + r) n := by
  refine (?_ : _ = m ((c.tc : Thread nD τ).loc main_arg1) (ix2 ⟨4096 * ((t : ℕ) / 16) + r, by have := r.isLt; have : (t : ℕ) < 128 := t.isLt; omega⟩ n : S34816x512.Idx)).trans (at2_of _ _ rfl rfl)
  unfold X0_1 Pipeline.Window.fill
  rw [dif_pos (moved0_1 t _)]
  blk_point [iblk, V, idx t]

/-- A sequence's values. -/
theorem blk2 (c : Dev nD) (t : Fin cfg0.N) (r : Fin 4096) (n : Fin 512) :
    X0_2 m c t (ix2 r n : S4096x512.Idx) = at2 (m ((c.tc : Thread nD τ).loc main_arg2)) (4096 * ((t : ℕ) / 16) + r) n := by
  refine (?_ : _ = m ((c.tc : Thread nD τ).loc main_arg2) (ix2 ⟨4096 * ((t : ℕ) / 16) + r, by have := r.isLt; have : (t : ℕ) < 128 := t.isLt; omega⟩ n : S34816x512.Idx)).trans (at2_of _ _ rfl rfl)
  unfold X0_2 Pipeline.Window.fill
  rw [dif_pos (moved0_2 t _)]
  blk_point [iblk, V, idx t]

/-- A sequence's context keys. -/
theorem blk3 (c : Dev nD) (t : Fin cfg0.N) (r : Fin 256) (n : Fin 512) :
    iblk m c 3 t (ix2 r n : S256x512.Idx) = at2 (m ((c.tc : Thread nD τ).loc main_arg1)) (32768 + 256 * ((t : ℕ) / 16) + r) n := by
  refine (?_ : _ = m ((c.tc : Thread nD τ).loc main_arg1) (ix2 ⟨32768 + 256 * ((t : ℕ) / 16) + r, by have := r.isLt; have : (t : ℕ) < 128 := t.isLt; omega⟩ n : S34816x512.Idx)).trans (at2_of _ _ rfl rfl)
  blk_point [iblk, V, idx t]

/-- A sequence's context values. -/
theorem blk4 (c : Dev nD) (t : Fin cfg0.N) (r : Fin 256) (n : Fin 512) :
    iblk m c 4 t (ix2 r n : S256x512.Idx) = at2 (m ((c.tc : Thread nD τ).loc main_arg2)) (32768 + 256 * ((t : ℕ) / 16) + r) n := by
  refine (?_ : _ = m ((c.tc : Thread nD τ).loc main_arg2) (ix2 ⟨32768 + 256 * ((t : ℕ) / 16) + r, by have := r.isLt; have : (t : ℕ) < 128 := t.isLt; omega⟩ n : S34816x512.Idx)).trans (at2_of _ _ rfl rfl)
  blk_point [iblk, V, idx t]

/-- The biases of the point's variant. -/
theorem blk5 (c : Dev nD) (t : Fin cfg0.N) (h : Fin 8) (r : Fin 256) (x : Fin 704) :
    iblk m c 5 t (ix4 0 h r x : S1x8x256x704.Idx) = kBias (m ((c.tc : Thread nD τ).loc main_arg3)) (4 * ((t : ℕ) % 16) + (r : ℕ) / 64) ((r : ℕ) % 64) h x := by
  refine (?_ : _ = V m c main_v19 (ix4 (variant (tile t)) h r x : S3x8x256x704.Idx)).trans ?_
  · show V m c main_v19 (((cfg0.win 5).blk t).view.emb (ix4 0 h r x : S1x8x256x704.Idx)) = _
    refine congrArg (V m c main_v19) ?_
    blk_ext [idx t]
  · rw [bias_eq]
    exact hBias_at _ _ (tile t) rfl

/-- The place in the result of an entry of its block. -/
theorem emb6 (t : Fin cfg0.N) (r : Fin 256) (n : Fin 512) :
    ((cfg0.win 6).blk t).view.emb (ix2 r n : S256x512.Idx)
      = (ix2 ⟨256 * (t : ℕ) + r, by have := r.isLt; have : (t : ℕ) < 128 := t.isLt; omega⟩ n : S34816x512.Idx) := by
  blk_ext [idx t]

end Cert.NaBlk

end
-- ==== Proof.NaKernel.lean ====
module

public import proofs.«01_k».proof.Proof.Gen.NaIdeal.Value
public import Idealize.ShloMosaic.Lib.Pipeline.ValueKit
public import Idealize.ShloMosaic.Lib.Pointwise
public import proofs.«01_k».proof.Proof.NaSoftmax

@[expose] public section

set_option maxRecDepth 65536

noncomputable section

namespace Cert.NaKernel
open Cert.NaIdeal Cert.NaIdeal.Gen Idealize.ShloMosaic Idealize.ShloMosaic.TcCoe Idealize.SL.Sem
open Idealize.ShloMosaic.Pipeline (Dat)

open Cert.NaSoftmax

/-- The scaled product of a query row and a key row. -/
def score (q k : Fin 64 → EReal) : EReal := (∑ d, q d * k d) * Ideal.ofBits FTy.f32 0x3E000000#32

/-- One head's attention block at an entry: the softmax over the near and the context keys. -/
theorem head_apply (q : Vec Ideal S256x64 .bf16) (k v : Vec Ideal S704x64 .bf16) (b : Vec Ideal S1x1x256x704 .f32) (kc vc : Vec Ideal S256x64 .bf16)
    (a : Fin 256) (d : Fin 64) :
    k0_pay26 q k v b kc vc (ix2 a d : S256x64.Idx)
      = divAfter (fun x : Fin 704 => score (fun e => q (ix2 a e : S256x64.Idx)) (fun e => k (ix2 x e : S704x64.Idx)) + b (ix4 0 0 a x : S1x1x256x704.Idx))
          (fun x => v (ix2 x d : S704x64.Idx))
          (fun x : Fin 256 => score (fun e => q (ix2 a e : S256x64.Idx)) (fun e => kc (ix2 x e : S256x64.Idx)))
          (fun x => vc (ix2 x d : S256x64.Idx)) := by
  pointwise [k0_pay26]
  simp only [fold_eq_sup]
  rfl

/-- Head 0's block is the last head's on its own loads. -/
theorem head0 (q : Vec Ideal S256x64 .bf16) (k v : Vec Ideal S704x64 .bf16) (b : Vec Ideal S1x1x256x704 .f32) (kc vc : Vec Ideal S256x64 .bf16) :
    k0_pay7 v vc (k0_pay4 q k b kc) (k0_pay5 q k b kc) (k0_pay6 q k b kc) = k0_pay26 q k v b kc vc := rfl

/-- Head 1's block is the last head's on its own loads. -/
theorem head1 (q : Vec Ideal S256x64 .bf16) (k v : Vec Ideal S704x64 .bf16) (b : Vec Ideal S1x1x256x704 .f32) (kc vc : Vec Ideal S256x64 .bf16) :
    k0_pay12 v (k0_pay9 q kc) vc (k0_pay10 q k b kc) (k0_pay11 q k b kc) = k0_pay26 q k v b kc vc := rfl

/-- Head 2's block is the last head's on its own loads. -/
theorem head2 (q : Vec Ideal S256x64 .bf16) (k v : Vec Ideal S704x64 .bf16) (b : Vec Ideal S1x1x256x704 .f32) (kc vc : Vec Ideal S256x64 .bf16) :
    k0_pay16 v (k0_pay13 q k b) (k0_pay14 q kc) vc (k0_pay15 q k b) = k0_pay26 q k v b kc vc := rfl

/-- Head 3's block is the last head's on its own loads. -/
theorem head3 (q : Vec Ideal S256x64 .bf16) (k v : Vec Ideal S704x64 .bf16) (b : Vec Ideal S1x1x256x704 .f32) (kc vc : Vec Ideal S256x64 .bf16) :
    k0_pay19 v (k0_pay17 q k b) (k0_pay18 q kc) vc = k0_pay26 q k v b kc vc := rfl

/-- Head 4's block is the last head's on its own loads. -/
theorem head4 (q : Vec Ideal S256x64 .bf16) (k v : Vec Ideal S704x64 .bf16) (b : Vec Ideal S1x1x256x704 .f32) (kc vc : Vec Ideal S256x64 .bf16) :
    k0_pay21 q v (k0_pay20 q k b) kc vc = k0_pay26 q k v b kc vc := rfl

/-- Head 5's block is the last head's on its own loads. -/
theorem head5 (q : Vec Ideal S256x64 .bf16) (k v : Vec Ideal S704x64 .bf16) (b : Vec Ideal S1x1x256x704 .f32) (kc vc : Vec Ideal S256x64 .bf16) :
    k0_pay23 q v (k0_pay22 q k) b kc vc = k0_pay26 q k v b kc vc := rfl

/-- Head 6's block is the last head's on its own loads. -/
theorem head6 (q : Vec Ideal S256x64 .bf16) (k v : Vec Ideal S704x64 .bf16) (b : Vec Ideal S1x1x256x704 .f32) (kc vc : Vec Ideal S256x64 .bf16) :
    k0_pay25 q v (k0_pay24 q k) b kc vc = k0_pay26 q k v b kc vc := rfl

end Cert.NaKernel

end
-- ==== Proof.NaPoint.lean ====
module

public import proofs.«01_k».proof.Proof.NaBlk
public import proofs.«01_k».proof.Proof.NaKernel

@[expose] public section

set_option maxRecDepth 65536

noncomputable section

namespace Cert.NaPoint

open Cert.NaIdeal Cert.NaIdeal.Gen Idealize.ShloMosaic Idealize.ShloMosaic.TcCoe Idealize.SL.Sem
open Idealize.ShloMosaic.Pipeline (Dat)
open Cert.NaSoftmax Cert.NaSpec Cert.NaBias Cert.NaBlk Cert.NaKernel

/-- A read of a rectangle is a read of the array at the shifted index. -/
theorem ld_at {s : Shape} {e : EltTy} (X : Vec Ideal s e) (off : Fin s.rank → ℕ) (size : Fin s.rank → ℕ) (inb : ∀ a, off a + size a ≤ s.size a)
    (i : (Rect.unit off size inb).shape.Idx) (j : s.Idx) (h : ∀ a, (j a : ℕ) = off a + (i a : ℕ)) :
    View.ld X (Rect.unit off size inb) i = X j := by
  refine congrArg X (funext fun a => Fin.ext ?_)
  refine Eq.trans ?_ (h a).symm
  exact congrArg (off a + ·) (Nat.one_mul _)

/-- One head's block over loads that read the tokens and the biases is the kernel's attention. -/
theorem head_at (Q K V : SX.Idx → EReal) (R : SR.Idx → EReal) (b T h : ℕ) (hT : T < 16)
    (q : Vec Ideal S256x64 .bf16) (k v : Vec Ideal S704x64 .bf16) (bb : Vec Ideal S1x1x256x704 .f32) (kc vc : Vec Ideal S256x64 .bf16)
    (hq : ∀ (a : Fin 256) (e : Fin 64), q (ix2 a e : S256x64.Idx) = at2 Q (256 * (16 * b + T) + a) (64 * h + e))
    (hk : ∀ (x : Fin 704) (e : Fin 64), k (ix2 x e : S704x64.Idx) = at2 K (4096 * b + (64 * u0 (4 * T) + x)) (64 * h + e))
    (hv : ∀ (x : Fin 704) (e : Fin 64), v (ix2 x e : S704x64.Idx) = at2 V (4096 * b + (64 * u0 (4 * T) + x)) (64 * h + e))
    (hb : ∀ (a : Fin 256) (x : Fin 704), bb (ix4 0 0 a x : S1x1x256x704.Idx) = kBias R (4 * T + (a : ℕ) / 64) ((a : ℕ) % 64) h x)
    (hkc : ∀ (x : Fin 256) (e : Fin 64), kc (ix2 x e : S256x64.Idx) = at2 K (32768 + 256 * b + x) (64 * h + e))
    (hvc : ∀ (x : Fin 256) (e : Fin 64), vc (ix2 x e : S256x64.Idx) = at2 V (32768 + 256 * b + x) (64 * h + e))
    (a : Fin 256) (d : Fin 64) :
    k0_pay26 q k v bb kc vc (ix2 a d : S256x64.Idx) = kernelAt Q K V R b (4 * T + (a : ℕ) / 64) ((a : ℕ) % 64) h d := by
  have ha := a.isLt
  have eu : u0 (4 * T + (a : ℕ) / 64) = u0 (4 * T) := by unfold u0; omega
  have en : 256 * (16 * b + T) + (a : ℕ) = 4096 * b + 64 * (4 * T + (a : ℕ) / 64) + (a : ℕ) % 64 := by omega
  have ek : ∀ x : ℕ, 4096 * b + (64 * u0 (4 * T) + x) = 4096 * b + 64 * u0 (4 * T + (a : ℕ) / 64) + x := fun x => by rw [eu]; omega
  refine (head_apply q k v bb kc vc a d).trans ?_
  unfold kernelAt
  have e1 : (fun x : Fin 704 => score (fun e => q (ix2 a e : S256x64.Idx)) (fun e => k (ix2 x e : S704x64.Idx)) + bb (ix4 0 0 a x : S1x1x256x704.Idx))
      = fun x : Fin 704 => kScore Q K R b (4 * T + (a : ℕ) / 64) ((a : ℕ) % 64) h x := funext fun x => by
    unfold kScore dotq score
    refine congrArg₂ (· + ·) (congrArg (· * _) (Finset.sum_congr rfl fun e _ => ?_)) (hb a x)
    beta_reduce
    rw [hq, hk, en, ek]
  have e2 : (fun x : Fin 704 => v (ix2 x d : S704x64.Idx)) = fun x : Fin 704 => at2 V (4096 * b + 64 * u0 (4 * T + (a : ℕ) / 64) + x) (64 * h + d) :=
    funext fun x => by rw [hv, ek]
  have e3 : (fun x : Fin 256 => score (fun e => q (ix2 a e : S256x64.Idx)) (fun e => kc (ix2 x e : S256x64.Idx)))
      = fun x : Fin 256 => cScore Q K b (4 * T + (a : ℕ) / 64) ((a : ℕ) % 64) h x := funext fun x => by
    unfold cScore dotq score
    refine congrArg (· * _) (Finset.sum_congr rfl fun e _ => ?_)
    beta_reduce
    rw [hq, hkc, en]
  have e4 : (fun x : Fin 256 => vc (ix2 x d : S256x64.Idx)) = fun x : Fin 256 => at2 V (32768 + 256 * b + x) (64 * h + d) :=
    funext fun x => hvc x d
  rw [e1, e2, e3, e4]

/-- The attention at an entry of the block of point `t`. -/
def blockAt (Q K V : SX.Idx → EReal) (R : SR.Idx → EReal) (t : ℕ) (y : S256x512.Idx) : EReal :=
  kernelAt Q K V R (t / 16) (4 * (t % 16) + (y 0 : ℕ) / 64) ((y 0 : ℕ) % 64) ((y 1 : ℕ) / 64) ((y 1 : ℕ) % 64)

/-- One head's piece of a point's block, over blocks that hold the tokens and the biases. -/
theorem piece_at (Q K V : SX.Idx → EReal) (R : SR.Idx → EReal) (t : ℕ)
    (q : Vec Ideal S256x512 .bf16) (k v : Vec Ideal S4096x512 .bf16) (bb : Vec Ideal S1x8x256x704 .f32) (kc vc : Vec Ideal S256x512 .bf16)
    (fq : ∀ (r : Fin 256) (e : Fin 512), q (ix2 r e : S256x512.Idx) = at2 Q (256 * t + r) e)
    (fk : ∀ (r : Fin 4096) (e : Fin 512), k (ix2 r e : S4096x512.Idx) = at2 K (4096 * (t / 16) + r) e)
    (fv : ∀ (r : Fin 4096) (e : Fin 512), v (ix2 r e : S4096x512.Idx) = at2 V (4096 * (t / 16) + r) e)
    (fkc : ∀ (r : Fin 256) (e : Fin 512), kc (ix2 r e : S256x512.Idx) = at2 K (32768 + 256 * (t / 16) + r) e)
    (fvc : ∀ (r : Fin 256) (e : Fin 512), vc (ix2 r e : S256x512.Idx) = at2 V (32768 + 256 * (t / 16) + r) e)
    (fb : ∀ (h : Fin 8) (r : Fin 256) (x : Fin 704), bb (ix4 0 h r x : S1x8x256x704.Idx) = kBias R (4 * (t % 16) + (r : ℕ) / 64) ((r : ℕ) % 64) h x)
    (n : Fin 8) (oq ok : Fin 2 → ℕ) (ob : Fin 4 → ℕ)
    (iq : ∀ a : Fin 2, oq a + (![256, 64] : Fin 2 → ℕ) a ≤ S256x512.size a) (ik : ∀ a : Fin 2, ok a + (![704, 64] : Fin 2 → ℕ) a ≤ S4096x512.size a)
    (ib : ∀ a : Fin 4, ob a + (![1, 1, 256, 704] : Fin 4 → ℕ) a ≤ S1x8x256x704.size a)
    (hq : oq = ![0, 64 * (n : ℕ)]) (hk : ok = ![64 * u0 (4 * (t % 16)), 64 * (n : ℕ)]) (hb : ob = ![0, (n : ℕ), 0, 0])
    (x : S256x64.Idx) (y : S256x512.Idx) (h0 : (y 0 : ℕ) = (x 0 : ℕ)) (h1 : (y 1 : ℕ) = 64 * (n : ℕ) + (x 1 : ℕ)) :
    k0_pay26 (View.ld q (Rect.unit (s := S256x512) oq ![256, 64] iq)) (View.ld k (Rect.unit (s := S4096x512) ok ![704, 64] ik))
      (View.ld v (Rect.unit (s := S4096x512) ok ![704, 64] ik)) (View.ld bb (Rect.unit (s := S1x8x256x704) ob ![1, 1, 256, 704] ib))
      (View.ld kc (Rect.unit (s := S256x512) oq ![256, 64] iq)) (View.ld vc (Rect.unit (s := S256x512) oq ![256, 64] iq)) x
      = blockAt Q K V R t y := by
  subst hq hk hb
  have hn := n.isLt
  have hu : u0 (4 * (t % 16)) ≤ 53 := by unfold u0; omega
  have ht : 256 * t = 256 * (16 * (t / 16) + t % 16) := by omega
  have hx : x = (ix2 (x 0) (x 1) : S256x64.Idx) := funext fun a => match a with | ⟨0, _⟩ => rfl | ⟨1, _⟩ => rfl
  have x1 : (x 1 : ℕ) < 64 := (x 1).isLt
  have e1 : (y 1 : ℕ) / 64 = n := by omega
  have e2 : (y 1 : ℕ) % 64 = (x 1 : ℕ) := by omega
  unfold blockAt
  rw [h0, e1, e2]
  refine (congrArg (k0_pay26 _ _ _ _ _ _) hx).trans ?_
  refine head_at Q K V R (t / 16) (t % 16) n (Nat.mod_lt _ (by decide)) _ _ _ _ _ _ ?_ ?_ ?_ ?_ ?_ ?_ (x 0) (x 1)
  · intro a e
    rw [← ht]
    exact (ld_at q _ _ iq _ (ix2 a ⟨64 * (n : ℕ) + e, by have := e.isLt; omega⟩ : S256x512.Idx)
      fun p => match p with | ⟨0, _⟩ => (Nat.zero_add _).symm | ⟨1, _⟩ => rfl).trans (fq _ _)
  · intro z e
    exact (ld_at k _ _ ik _ (ix2 ⟨64 * u0 (4 * (t % 16)) + z, by have := z.isLt; omega⟩ ⟨64 * (n : ℕ) + e, by have := e.isLt; omega⟩ : S4096x512.Idx)
      fun p => match p with | ⟨0, _⟩ => rfl | ⟨1, _⟩ => rfl).trans (fk _ _)
  · intro z e
    exact (ld_at v _ _ ik _ (ix2 ⟨64 * u0 (4 * (t % 16)) + z, by have := z.isLt; omega⟩ ⟨64 * (n : ℕ) + e, by have := e.isLt; omega⟩ : S4096x512.Idx)
      fun p => match p with | ⟨0, _⟩ => rfl | ⟨1, _⟩ => rfl).trans (fv _ _)
  · intro a z
    exact (ld_at bb _ _ ib _ (ix4 0 n a z : S1x8x256x704.Idx)
      fun p => match p with | ⟨0, _⟩ => rfl | ⟨1, _⟩ => rfl | ⟨2, _⟩ => (Nat.zero_add _).symm | ⟨3, _⟩ => (Nat.zero_add _).symm).trans (fb n a z)
  · intro a e
    exact (ld_at kc _ _ iq _ (ix2 a ⟨64 * (n : ℕ) + e, by have := e.isLt; omega⟩ : S256x512.Idx)
      fun p => match p with | ⟨0, _⟩ => (Nat.zero_add _).symm | ⟨1, _⟩ => rfl).trans (fkc _ _)
  · intro a e
    exact (ld_at vc _ _ iq _ (ix2 a ⟨64 * (n : ℕ) + e, by have := e.isLt; omega⟩ : S256x512.Idx)
      fun p => match p with | ⟨0, _⟩ => (Nat.zero_add _).symm | ⟨1, _⟩ => rfl).trans (fvc _ _)

variable (m : (ℓ : Loc nD τ sig) → Buf (Elt Ideal) ℓ)

/-- What a point leaves at an entry of its block. -/
abbrev pointAt (c : Dev nD) (t : Fin cfg0.N) (y : S256x512.Idx) : EReal :=
  blockAt (m ((c.tc : Thread nD τ).loc main_arg0)) (m ((c.tc : Thread nD τ).loc main_arg1)) (m ((c.tc : Thread nD τ).loc main_arg2))
    (m ((c.tc : Thread nD τ).loc main_arg3)) t y

/-- What a point leaves in its block. -/
theorem outs_at (c : Dev nD) (t : Fin cfg0.N) (y : S256x512.Idx) : outsAt0 m c t y = pointAt m c t y := by
  unfold outsAt0
  unfold out0_A_6
  frame_out
  canon_tiles x h
  case piece7 => exact (congrFun (head0 _ _ _ _ _ _) x).trans (piece_at _ _ _ _ t _ _ _ _ _ _ (blk0 m c t) (blk1 m c t) (blk2 m c t) (blk3 m c t) (blk4 m c t) (blk5 m c t) 0 _ _ _ _ _ _ rfl (off0 t) rfl x y h0 (h1.trans (Nat.zero_add _).symm))
  case piece6 => exact (congrFun (head1 _ _ _ _ _ _) x).trans (piece_at _ _ _ _ t _ _ _ _ _ _ (blk0 m c t) (blk1 m c t) (blk2 m c t) (blk3 m c t) (blk4 m c t) (blk5 m c t) 1 _ _ _ _ _ _ rfl (off1 t) rfl x y h0 h1)
  case piece5 => exact (congrFun (head2 _ _ _ _ _ _) x).trans (piece_at _ _ _ _ t _ _ _ _ _ _ (blk0 m c t) (blk1 m c t) (blk2 m c t) (blk3 m c t) (blk4 m c t) (blk5 m c t) 2 _ _ _ _ _ _ rfl (off2 t) rfl x y h0 h1)
  case piece4 => exact (congrFun (head3 _ _ _ _ _ _) x).trans (piece_at _ _ _ _ t _ _ _ _ _ _ (blk0 m c t) (blk1 m c t) (blk2 m c t) (blk3 m c t) (blk4 m c t) (blk5 m c t) 3 _ _ _ _ _ _ rfl (off3 t) rfl x y h0 h1)
  case piece3 => exact (congrFun (head4 _ _ _ _ _ _) x).trans (piece_at _ _ _ _ t _ _ _ _ _ _ (blk0 m c t) (blk1 m c t) (blk2 m c t) (blk3 m c t) (blk4 m c t) (blk5 m c t) 4 _ _ _ _ _ _ rfl (off4 t) rfl x y h0 h1)
  case piece2 => exact (congrFun (head5 _ _ _ _ _ _) x).trans (piece_at _ _ _ _ t _ _ _ _ _ _ (blk0 m c t) (blk1 m c t) (blk2 m c t) (blk3 m c t) (blk4 m c t) (blk5 m c t) 5 _ _ _ _ _ _ rfl (off5 t) rfl x y h0 h1)
  case piece1 => exact (congrFun (head6 _ _ _ _ _ _) x).trans (piece_at _ _ _ _ t _ _ _ _ _ _ (blk0 m c t) (blk1 m c t) (blk2 m c t) (blk3 m c t) (blk4 m c t) (blk5 m c t) 6 _ _ _ _ _ _ rfl (off6 t) rfl x y h0 h1)
  case piece0 => exact piece_at _ _ _ _ t _ _ _ _ _ _ (blk0 m c t) (blk1 m c t) (blk2 m c t) (blk3 m c t) (blk4 m c t) (blk5 m c t) 7 _ _ _ _ _ _ rfl (off7 t) rfl x y h0 h1

end Cert.NaPoint

end
-- ==== Proof.NaFinal.lean ====
module

public import proofs.«01_k».proof.Proof.NaPoint

@[expose] public section

set_option maxRecDepth 65536

noncomputable section

namespace Cert.NaPoint

open Cert.NaIdeal Cert.NaIdeal.Gen Idealize.ShloMosaic Idealize.ShloMosaic.TcCoe Idealize.SL.Sem
open Idealize.ShloMosaic.Pipeline (Dat)
open Cert.NaSoftmax Cert.NaSpec Cert.NaBias Cert.NaBlk

variable (m : (ℓ : Loc nD τ sig) → Buf (Elt Ideal) ℓ)

/-- What a point leaves at an entry of its block, read in the result array. -/
theorem arr_at (c : Dev nD) (t : Fin cfg0.N) (r : Fin 256) (n : Fin 512) :
    (dats m 0 c).arrAt 6 cfg0.N (ix2 ⟨256 * (t : ℕ) + r, by have := r.isLt; have : (t : ℕ) < 128 := t.isLt; omega⟩ n : S34816x512.Idx)
      = pointAt m c t (ix2 r n : S256x512.Idx) := by
  rw [← emb6 t r n]
  refine (congrFun (NaIdeal.Value.blocks6 m c t (flush0_6 t)) (ix2 r n : S256x512.Idx)).trans ?_
  rw [NaIdeal.Value.flushed6]
  exact outs_at m c t _

/-- A row past the latent tokens lies in no block. -/
theorem not_mem (t : Fin cfg0.N) (i : S34816x512.Idx) (h : 32768 ≤ (i 0 : ℕ)) : i ∉ ((cfg0.win 6).blk t).view.set := by
  intro hi
  obtain ⟨y, -, rfl⟩ := Finset.mem_map.mp hi
  have hy : (y : S256x512.Idx) = (ix2 (y 0) (y 1) : S256x512.Idx) := funext fun a => match a with | ⟨0, _⟩ => rfl | ⟨1, _⟩ => rfl
  have e := congrArg (fun z : S34816x512.Idx => (z 0 : ℕ)) ((congrArg ((cfg0.win 6).blk t).view.emb hy).trans (emb6 t _ _))
  have h : 32768 ≤ 256 * (t : ℕ) + (y 0 : ℕ) := h.trans (le_of_eq e)
  have h1 : (t : ℕ) < 128 := t.isLt
  have h2 : (y 0 : ℕ) < 256 := (y 0).isLt
  omega

/-- The kernel's result array, entry by entry. -/
theorem final_at (c : Dev nD) (i : S34816x512.Idx) : (dats m 0 c).arrAt 6 cfg0.N i
    = if (i 0 : ℕ) < 32768 then
      kernelAt (m ((c.tc : Thread nD τ).loc main_arg0)) (m ((c.tc : Thread nD τ).loc main_arg1)) (m ((c.tc : Thread nD τ).loc main_arg2))
        (m ((c.tc : Thread nD τ).loc main_arg3)) ((i 0 : ℕ) / 4096) ((i 0 : ℕ) % 4096 / 64) ((i 0 : ℕ) % 64) ((i 1 : ℕ) / 64) ((i 1 : ℕ) % 64)
      else (0 : EReal) := by
  by_cases h : (i 0 : ℕ) < 32768
  · rw [if_pos h]
    have hi : i = (ix2 ⟨256 * ((i 0 : ℕ) / 256) + (i 0 : ℕ) % 256, by omega⟩ (i 1) : S34816x512.Idx) :=
      funext fun a => match a with | ⟨0, _⟩ => Fin.ext (Nat.div_add_mod _ _).symm | ⟨1, _⟩ => rfl
    refine (congrArg _ hi).trans ((arr_at m c ⟨(i 0 : ℕ) / 256, by show _ < 128; omega⟩ ⟨(i 0 : ℕ) % 256, by omega⟩ (i 1)).trans ?_)
    show kernelAt _ _ _ _ ((i 0 : ℕ) / 256 / 16) (4 * ((i 0 : ℕ) / 256 % 16) + (i 0 : ℕ) % 256 / 64) ((i 0 : ℕ) % 256 % 64) ((i 1 : ℕ) / 64) ((i 1 : ℕ) % 64) = _
    rw [show (i 0 : ℕ) / 256 / 16 = (i 0 : ℕ) / 4096 by omega, show 4 * ((i 0 : ℕ) / 256 % 16) + (i 0 : ℕ) % 256 / 64 = (i 0 : ℕ) % 4096 / 64 by omega,
      show (i 0 : ℕ) % 256 % 64 = (i 0 : ℕ) % 64 by omega]
  · rw [if_neg h]
    refine (NaIdeal.Value.entry6 m c i fun t _ => not_mem t i (by omega)).trans ?_
    refine (congrFun (zeros_eq m c) i).trans ?_
    pointwise

end Cert.NaPoint

end
-- ==== Proof.NaRefStage.lean ====
module

public import proofs.«01_k».proof.Proof.NaGather
public import proofs.«01_k».proof.Proof.NaSpec

@[expose] public section

set_option maxRecDepth 65536

noncomputable section

namespace Cert.NaRefStage

open Cert.NaRefIdeal Cert.NaRefIdeal.Gen Idealize.ShloMosaic Idealize.ShloMosaic.TcCoe Idealize.SL.Sem
open Cert.NaSoftmax Cert.NaSpec

/-- The arrays of tokens. -/
abbrev X2 := FVec Ideal S34816x512 .bf16

/-- The latent tokens by sequence, head, row, column and feature. -/
def grid (X : X2) : FVec Ideal S8x8x64x64x64 .f32 :=
  shapeCast _ (transpose S8x8x4096x64 [0, 2, 1, 3] (shapeCast _ (shapeCast _ (extractStridedSlice S32768x512 ![0, 0]
    (extf .f32 X bitsLt_bf16_f32) slices_S34816x512_S32768x512_0_0) shapeCasts_S32768x512_S8x4096x512)
    shapeCasts_S8x4096x512_S8x4096x8x64) transposes_S8x4096x8x64_S8x8x4096x64_0_2_1_3) shapeCasts_S8x8x4096x64_S8x8x64x64x64

/-- The latent queries in blocks of sixteen columns. -/
def queries (X : X2) : FVec Ideal S8x8x64x4x16x64 .f32 := shapeCast _ (grid X) shapeCasts_S8x8x64x64x64_S8x8x64x4x16x64

/-- The context tokens by sequence, head, place and feature. -/
def far (X : X2) : FVec Ideal S8x8x256x64 .f32 :=
  transpose S8x8x256x64 [0, 2, 1, 3] (shapeCast _ (shapeCast _ (extractStridedSlice S2048x512 ![32768, 0]
    (extf .f32 X bitsLt_bf16_f32) slices_S34816x512_S2048x512_32768_0) shapeCasts_S2048x512_S8x256x512)
    shapeCasts_S8x256x512_S8x256x8x64) transposes_S8x256x8x64_S8x8x256x64_0_2_1_3

/-- The rows of every window. -/
def iRow : IVec S64x8x1 32 := broadcastInDim S64x8x1 ![0, 1] bcast_S64x8_S64x8x1_0_1 (select (constantI S64x8 1 0#1)
  (addi ((fun i => lit0 (S64x8.rowMajor i))) (broadcastInDim S64x8 ![] bcast_S_S64x8 (constantI S_ 32 64#32))) ((fun i => lit0 (S64x8.rowMajor i))))

/-- The columns of every band. -/
def iCol : IVec S4x32x1 32 := broadcastInDim S4x32x1 ![0, 1] bcast_S4x32_S4x32x1_0_1 (select (constantI S4x32 1 0#1)
  (addi ((fun i => lit1 (S4x32.rowMajor i))) (broadcastInDim S4x32 ![] bcast_S_S4x32 (constantI S_ 32 64#32))) ((fun i => lit1 (S4x32.rowMajor i))))

/-- The relative columns. -/
def iRelCol : IVec S4x16x32x1 32 := broadcastInDim S4x16x32x1 ![0, 1, 2] bcast_S4x16x32_S4x16x32x1_0_1_2 (select (constantI S4x16x32 1 0#1)
  (addi ((fun i => lit2 (S4x16x32.rowMajor i))) (broadcastInDim S4x16x32 ![] bcast_S_S4x16x32 (constantI S_ 32 31#32))) ((fun i => lit2 (S4x16x32.rowMajor i))))

/-- The relative rows. -/
def iRelRow : IVec S64x8x1 32 := broadcastInDim S64x8x1 ![0, 1] bcast_S64x8_S64x8x1_0_1 (select (constantI S64x8 1 0#1)
  (addi ((fun i => lit3 (S64x8.rowMajor i))) (broadcastInDim S64x8 ![] bcast_S_S64x8 (constantI S_ 32 15#32))) ((fun i => lit3 (S64x8.rowMajor i))))

/-- The rows of the windows, gathered. -/
def nearRows (X : X2) : FVec Ideal S8x8x64x8x64x64 .f32 :=
  Host.gather gather_S8x8x64x64x64_S64x8x1_S8x8x64x8x64x64_0145_2_n_n_2_2_8816464 (grid X) iRow

/-- The rows and columns near every block of queries, gathered. -/
def nearCols (X : X2) : FVec Ideal S8x8x64x8x4x32x64 .f32 :=
  Host.gather gather_S8x8x64x8x64x64_S4x32x1_S8x8x64x8x4x32x64_01236_4_n_n_4_2_88648164 (nearRows X) iCol

/-- The tokens near every block of queries. -/
def near (X : X2) : FVec Ideal S8x8x64x4x256x64 .f32 :=
  shapeCast _ (transpose S8x8x64x4x8x32x64 [0, 1, 2, 4, 3, 5, 6] (nearCols X) transposes_S8x8x64x8x4x32x64_S8x8x64x4x8x32x64_0_1_2_4_3_5_6)
    shapeCasts_S8x8x64x4x8x32x64_S8x8x64x4x256x64

/-- The columns of the table of relative positions, gathered. -/
def biasCols (R : FVec Ideal S8x15x31 .f32) : FVec Ideal S8x15x4x16x32 .f32 :=
  Host.gather gather_S8x15x31_S4x16x32x1_S8x15x4x16x32_01_2_n_n_2_3_8151 R iRelCol

/-- The rows and columns of the table of relative positions, gathered. -/
def biasRows (R : FVec Ideal S8x15x31 .f32) : FVec Ideal S8x64x8x4x16x32 .f32 :=
  Host.gather gather_S8x15x4x16x32_S64x8x1_S8x64x8x4x16x32_0345_1_n_n_1_2_8141632 (biasCols R) iRelRow

/-- The biases of the near keys. -/
def bias (R : FVec Ideal S8x15x31 .f32) : FVec Ideal S8x64x4x16x256 .f32 :=
  shapeCast _ (transpose S8x64x4x16x8x32 [0, 1, 3, 4, 2, 5] (biasRows R) transposes_S8x64x8x4x16x32_S8x64x4x16x8x32_0_1_3_4_2_5)
    shapeCasts_S8x64x4x16x8x32_S8x64x4x16x256

/-- The columns inside the windows. -/
def mask : IVec S4x16x256 1 :=
  shapeCast _ (broadcastInDim S4x16x8x32 ![0, 1, 2, 3] bcast_S4x16x1x32_S4x16x8x32_0_1_2_3 (broadcastInDim S4x16x1x32 ![0, 1, 3]
    bcast_S4x16x32_S4x16x1x32_0_1_3 ((fun i => lit4 (S4x16x32.rowMajor i))))) shapeCasts_S4x16x8x32_S4x16x256

/-- The scores of the near keys. -/
def sLoc (Q K : X2) (R : FVec Ideal S8x15x31 .f32) : FVec Ideal S8x8x64x4x16x256 .f32 :=
  select (broadcastInDim S8x8x64x4x16x256 ![3, 4, 5] bcast_S4x16x256_S8x8x64x4x16x256_3_4_5 mask)
    (addf (mulf (Host.dotGeneral dot_S8x8x64x4x16x64_S8x8x64x4x256x64_S8x8x64x4x16x256_5_5_4_4_0123_0123 none (queries Q) (near K))
      (broadcastInDim S8x8x64x4x16x256 ![] bcast_S_S8x8x64x4x16x256 (constant S_ .f32 0x3E000000#32)))
      (broadcastInDim S8x8x64x4x16x256 ![0, 1, 2, 3, 4, 5] bcast_S1x8x64x4x16x256_S8x8x64x4x16x256_0_1_2_3_4_5
        (broadcastInDim S1x8x64x4x16x256 ![1, 2, 3, 4, 5] bcast_S8x64x4x16x256_S1x8x64x4x16x256_1_2_3_4_5 (bias R))))
    (broadcastInDim S8x8x64x4x16x256 ![] bcast_S_S8x8x64x4x16x256 (id (constant S_ .f32 0xFF800000#32)))

/-- The scores of the context keys. -/
def sCtx (Q K : X2) : FVec Ideal S8x8x64x4x16x256 .f32 :=
  mulf (Host.dotGeneral dot_S8x8x64x4x16x64_S8x8x256x64_S8x8x64x4x16x256_5_3_234_2_01_01 none (queries Q) (far K))
    (broadcastInDim S8x8x64x4x16x256 ![] bcast_S_S8x8x64x4x16x256 (constant S_ .f32 0x3E000000#32))

/-- The scores of all keys. -/
def sAll (a b : FVec Ideal S8x8x64x4x16x256 .f32) : FVec Ideal S8x8x64x4x16x512 .f32 :=
  concatenate S8x8x64x4x16x512 5 [⟨S8x8x64x4x16x256, a⟩, ⟨S8x8x64x4x16x256, b⟩] concatenates_S8x8x64x4x16x256_S8x8x64x4x16x256_S8x8x64x4x16x512_d5

/-- One number per query, repeated over the keys. -/
def over (x : FVec Ideal S8x8x64x4x16 .f32) : FVec Ideal S8x8x64x4x16x512 .f32 :=
  broadcastInDim S8x8x64x4x16x512 ![0, 1, 2, 3, 4, 5] bcast_S8x8x64x4x16x1_S8x8x64x4x16x512_0_1_2_3_4_5
    (broadcastInDim S8x8x64x4x16x1 ![0, 1, 2, 3, 4] bcast_S8x8x64x4x16_S8x8x64x4x16x1_0_1_2_3_4 x)

/-- The largest score of every query. -/
def top (s : FVec Ideal S8x8x64x4x16x512 .f32) : FVec Ideal S8x8x64x4x16 .f32 :=
  maximumf (broadcastInDim S8x8x64x4x16 ![] bcast_S_S8x8x64x4x16 (constant S_ .f32 0xFF800000#32))
    (Host.reduce FloatOps.maximumf s (constant S_ .f32 0xFF800000#32) reducesTo_S8x8x64x4x16x512_S8x8x64x4x16_d5 h_S_)

/-- The weights before the division. -/
def wts (s : FVec Ideal S8x8x64x4x16x512 .f32) : FVec Ideal S8x8x64x4x16x512 .f32 := Host.exp (subf s (over (top s)))

/-- The sum of the weights of every query. -/
def den (w : FVec Ideal S8x8x64x4x16x512 .f32) : FVec Ideal S8x8x64x4x16 .f32 :=
  Host.reduceAdd w (constant S_ .f32 0x00000000#32) reducesTo_S8x8x64x4x16x512_S8x8x64x4x16_d5 h_S_

/-- The softmax of the scores. -/
def prob (w : FVec Ideal S8x8x64x4x16x512 .f32) : FVec Ideal S8x8x64x4x16x512 .f32 := Host.divf w (over (den w))

/-- The attention of every query. -/
def mixed (p : FVec Ideal S8x8x64x4x16x512 .f32) (V : X2) : FVec Ideal S8x8x64x4x16x64 .f32 :=
  addf (Host.dotGeneral dot_S8x8x64x4x16x256_S8x8x64x4x256x64_S8x8x64x4x16x64_5_4_4_5_0123_0123 none
      (extractStridedSlice S8x8x64x4x16x256 ![0, 0, 0, 0, 0, 0] p slices_S8x8x64x4x16x512_S8x8x64x4x16x256_0_0_0_0_0_0) (near V))
    (Host.dotGeneral dot_S8x8x64x4x16x256_S8x8x256x64_S8x8x64x4x16x64_5_2_234_3_01_01 none
      (extractStridedSlice S8x8x64x4x16x256 ![0, 0, 0, 0, 0, 256] p slices_S8x8x64x4x16x512_S8x8x64x4x16x256_0_0_0_0_0_256) (far V))

/-- The rows of the result: the attention of the latent tokens, then zeros. -/
def rows (o : FVec Ideal S8x8x64x4x16x64 .f32) : FVec Ideal S34816x512 .bf16 :=
  truncf .bf16 (concatenate S34816x512 0 [⟨S32768x512, (shapeCast _ (transpose S8x4096x8x64 [0, 2, 1, 3] (shapeCast _ o
    shapeCasts_S8x8x64x4x16x64_S8x8x4096x64) transposes_S8x8x4096x64_S8x4096x8x64_0_2_1_3) shapeCasts_S8x4096x8x64_S32768x512)⟩,
    ⟨S2048x512, (broadcastInDim S2048x512 ![] bcast_S_S2048x512 (constant S_ .f32 0x00000000#32))⟩] concatenates_S32768x512_S2048x512_S34816x512_d0) bitsLt_bf16_f32

variable (m : (ℓ : Loc nD τ sig) → Buf (Elt Ideal) ℓ)

/-- The reference's result, by its steps. -/
theorem res_eq (c : Dev nD) : NaRefIdeal.Value.res_main_v100 (F := Ideal) m c
    = rows (mixed (prob (wts (sAll (sLoc (m ((c.tc : Thread nD τ).loc main_arg0)) (m ((c.tc : Thread nD τ).loc main_arg1)) (m ((c.tc : Thread nD τ).loc main_arg3)))
        (sCtx (m ((c.tc : Thread nD τ).loc main_arg0)) (m ((c.tc : Thread nD τ).loc main_arg1)))))) (m ((c.tc : Thread nD τ).loc main_arg2))) := rfl

end Cert.NaRefStage

end
-- ==== Proof.NaRefTables.lean ====
module

public import proofs.«01_k».proof.Proof.NaRefStage

@[expose] public section

set_option maxRecDepth 65536

noncomputable section

namespace Cert.NaRefStage

open Cert.NaRefIdeal Cert.NaRefIdeal.Gen Idealize.ShloMosaic Idealize.ShloMosaic.TcCoe Idealize.SL.Sem
open Cert.NaSoftmax Cert.NaSpec

/-- The rows of the windows. -/
theorem iRow_at : ∀ (r : Fin 64) (w : Fin 8), min (iRow (ix3 r w 0 : S64x8x1.Idx)).toInt.toNat 63 = rs r + w := by decide +kernel

/-- The columns of the bands. -/
theorem iCol_at : ∀ (n : Fin 4) (w : Fin 32), min (iCol (ix3 n w 0 : S4x32x1.Idx)).toInt.toNat 63 = kb (16 * n) + w := by decide +kernel

/-- The relative columns, inside the windows. -/
theorem iRelCol_at : ∀ (n : Fin 4) (a : Fin 16) (w : Fin 32), lit4 (S4x16x32.rowMajor (ix3 n a w : S4x16x32.Idx)) = 1#1 →
    min (iRelCol (ix4 n a w 0 : S4x16x32x1.Idx)).toInt.toNat 30 = kb (16 * n + a) + w + 15 - (16 * n + a) := by decide +kernel

/-- The relative rows. -/
theorem iRelRow_at : ∀ (r : Fin 64) (w : Fin 8), min (iRelRow (ix3 r w 0 : S64x8x1.Idx)).toInt.toNat 14 = rs r + w + 7 - r := by decide +kernel

/-- The columns inside the windows. -/
theorem cols_ok : ∀ (n : Fin 4) (a : Fin 16) (w : Fin 32), lit4 (S4x16x32.rowMajor (ix3 n a w : S4x16x32.Idx))
    = if cs (16 * n + a) ≤ kb (16 * n + a) + w ∧ kb (16 * n + a) + w < cs (16 * n + a) + 16 then 1#1 else 0#1 := by decide +kernel

/-- The relative columns, by the window's bounds. -/
theorem iRelCol_in (n : Fin 4) (a : Fin 16) (w : Fin 32)
    (h : cs (16 * n + a) ≤ kb (16 * n + a) + w ∧ kb (16 * n + a) + w < cs (16 * n + a) + 16) :
    min (iRelCol (ix4 n a w 0 : S4x16x32x1.Idx)).toInt.toNat 30 = kb (16 * n + a) + w + 15 - (16 * n + a) :=
  iRelCol_at n a w ((cols_ok n a w).trans (if_pos h))

end Cert.NaRefStage

end
-- ==== Proof.NaRefDotNear.lean ====
module

public import proofs.«01_k».proof.Proof.NaRefStage
public import Idealize.ShloMosaic.Lib.IdealHost

@[expose] public section

set_option maxRecDepth 65536

noncomputable section

namespace Cert.NaRefStage

open Cert.NaRefIdeal Cert.NaRefIdeal.Gen Idealize.ShloMosaic Idealize.ShloMosaic.TcCoe Idealize.SL.Sem
open Cert.NaSoftmax Cert.NaSpec

/-- Queries against near keys. -/
theorem dot_near (A : FVec Ideal S8x8x64x4x16x64 .f32) (B : FVec Ideal S8x8x64x4x256x64 .f32) (i : S8x8x64x4x16x256.Idx) :
    Host.dotGeneral dot_S8x8x64x4x16x64_S8x8x64x4x256x64_S8x8x64x4x16x256_5_5_4_4_0123_0123 none A B i
      = ∑ k : Fin 64, A (ix6 (i 0) (i 1) (i 2) (i 3) (i 4) k : S8x8x64x4x16x64.Idx) * B (ix6 (i 0) (i 1) (i 2) (i 3) (i 5) k : S8x8x64x4x256x64.Idx) := by
  pointwise

/-- Weights against near values. -/
theorem mix_near (A : FVec Ideal S8x8x64x4x16x256 .f32) (B : FVec Ideal S8x8x64x4x256x64 .f32) (i : S8x8x64x4x16x64.Idx) :
    Host.dotGeneral dot_S8x8x64x4x16x256_S8x8x64x4x256x64_S8x8x64x4x16x64_5_4_4_5_0123_0123 none A B i
      = ∑ k : Fin 256, A (ix6 (i 0) (i 1) (i 2) (i 3) (i 4) k : S8x8x64x4x16x256.Idx) * B (ix6 (i 0) (i 1) (i 2) (i 3) k (i 5) : S8x8x64x4x256x64.Idx) := by
  pointwise

end Cert.NaRefStage

end
-- ==== Proof.NaRefDotFar.lean ====
module

public import proofs.«01_k».proof.Proof.NaRefStage
public import Idealize.ShloMosaic.Lib.IdealHost

@[expose] public section

set_option maxRecDepth 65536

noncomputable section

namespace Cert.NaRefStage

open Cert.NaRefIdeal Cert.NaRefIdeal.Gen Idealize.ShloMosaic Idealize.ShloMosaic.TcCoe Idealize.SL.Sem
open Cert.NaSoftmax Cert.NaSpec

/-- Queries against context keys. -/
theorem dot_far (A : FVec Ideal S8x8x64x4x16x64 .f32) (B : FVec Ideal S8x8x256x64 .f32) (i : S8x8x64x4x16x256.Idx) :
    Host.dotGeneral dot_S8x8x64x4x16x64_S8x8x256x64_S8x8x64x4x16x256_5_3_234_2_01_01 none A B i
      = ∑ k : Fin 64, A (ix6 (i 0) (i 1) (i 2) (i 3) (i 4) k : S8x8x64x4x16x64.Idx) * B (ix4 (i 0) (i 1) (i 5) k : S8x8x256x64.Idx) := by
  pointwise

/-- Weights against context values. -/
theorem mix_far (A : FVec Ideal S8x8x64x4x16x256 .f32) (B : FVec Ideal S8x8x256x64 .f32) (i : S8x8x64x4x16x64.Idx) :
    Host.dotGeneral dot_S8x8x64x4x16x256_S8x8x256x64_S8x8x64x4x16x64_5_2_234_3_01_01 none A B i
      = ∑ k : Fin 256, A (ix6 (i 0) (i 1) (i 2) (i 3) (i 4) k : S8x8x64x4x16x256.Idx) * B (ix4 (i 0) (i 1) k (i 5) : S8x8x256x64.Idx) := by
  pointwise

end Cert.NaRefStage

end
-- ==== Proof.NaRefAt.lean ====
module

public import proofs.«01_k».proof.Proof.NaRefTables
public import proofs.«01_k».proof.Proof.NaRefDotNear
public import proofs.«01_k».proof.Proof.NaRefDotFar

@[expose] public section

set_option maxRecDepth 65536

noncomputable section

namespace Cert.NaRefStage

open Cert.NaRefIdeal Cert.NaRefIdeal.Gen Idealize.ShloMosaic Idealize.ShloMosaic.TcCoe Idealize.SL.Sem
open Cert.NaSoftmax Cert.NaSpec Cert.NaGather

/-- An entry of the latent grid. -/
theorem grid_at (X : X2) (i : S8x8x64x64x64.Idx) :
    grid X i = at2 X (4096 * (i 0 : ℕ) + 64 * (i 2 : ℕ) + (i 3 : ℕ)) (64 * (i 1 : ℕ) + (i 4 : ℕ)) := by
  pointwise [grid]
  refine at2_of X _ ?_ ?_
  · show (i 0 : ℕ) * 4096 + ((i 2 : ℕ) * 64 + (i 3 : ℕ)) = _
    omega
  · show (i 1 : ℕ) * 64 + (i 4 : ℕ) = _
    omega

/-- An entry of the queries. -/
theorem queries_at (X : X2) (i : S8x8x64x4x16x64.Idx) :
    queries X i = at2 X (4096 * (i 0 : ℕ) + 64 * (i 2 : ℕ) + (16 * (i 3 : ℕ) + (i 4 : ℕ))) (64 * (i 1 : ℕ) + (i 5 : ℕ)) := by
  pointwise [queries]
  refine (grid_at X _).trans ?_
  refine congrArg₂ (at2 X) ?_ ?_
  · show 4096 * (i 0 : ℕ) + 64 * (i 2 : ℕ) + ((i 3 : ℕ) * 16 + (i 4 : ℕ)) = _
    omega
  · show 64 * (i 1 : ℕ) + (i 5 : ℕ) = _
    omega

/-- An entry of the context tokens. -/
theorem far_at (X : X2) (i : S8x8x256x64.Idx) :
    far X i = at2 X (32768 + 256 * (i 0 : ℕ) + (i 2 : ℕ)) (64 * (i 1 : ℕ) + (i 3 : ℕ)) := by
  pointwise [far]
  refine at2_of X _ ?_ ?_
  · show 32768 + ((i 0 : ℕ) * 256 + (i 2 : ℕ)) = _
    omega
  · show (i 1 : ℕ) * 64 + (i 3 : ℕ) = _
    omega

/-- The band's first column is that of its block of sixteen. -/
theorem kb_block (n a : ℕ) (ha : a < 16) : kb (16 * n + a) = kb (16 * n) := by
  unfold kb; omega

/-- The gathered rows. -/
theorem nearRows_at (X : X2) (i : S8x8x64x8x64x64.Idx) :
    nearRows X i = at2 X (4096 * (i 0 : ℕ) + 64 * (rs (i 2) + (i 3 : ℕ)) + (i 4 : ℕ)) (64 * (i 1 : ℕ) + (i 5 : ℕ)) := by
  have hr := (i 2).isLt
  have hw := (i 3).isLt
  have hb : rs (i 2) + (i 3 : ℕ) < 64 := by have := (rows_le (i 2) hr); unfold rs; change (i 3 : ℕ) < 8 at hw; omega
  exact (rows_at (grid X) iRow i ⟨_, hb⟩ (iRow_at (i 2) (i 3))).trans (grid_at X _)

/-- The gathered rows and columns. -/
theorem nearCols_at (X : X2) (i : S8x8x64x8x4x32x64.Idx) :
    nearCols X i = at2 X (4096 * (i 0 : ℕ) + 64 * (rs (i 2) + (i 3 : ℕ)) + (kb (16 * (i 4 : ℕ)) + (i 5 : ℕ))) (64 * (i 1 : ℕ) + (i 6 : ℕ)) := by
  have hw := (i 5).isLt
  have hb : kb (16 * (i 4 : ℕ)) + (i 5 : ℕ) < 64 := by unfold kb; change (i 5 : ℕ) < 32 at hw; omega
  exact (cols_at (nearRows X) iCol i ⟨_, hb⟩ (iCol_at (i 4) (i 5))).trans (nearRows_at X _)

/-- An entry of the near tokens. -/
theorem near_at (X : X2) (i : S8x8x64x4x256x64.Idx) :
    near X i = at2 X (4096 * (i 0 : ℕ) + 64 * (rs (i 2) + (i 4 : ℕ) / 32) + (kb (16 * (i 3 : ℕ)) + (i 4 : ℕ) % 32)) (64 * (i 1 : ℕ) + (i 5 : ℕ)) := by
  pointwise [near]
  exact nearCols_at X _

/-- An entry of the mask. -/
theorem mask_at (i : S4x16x256.Idx) :
    mask i = if cs (16 * (i 0 : ℕ) + (i 1 : ℕ)) ≤ kb (16 * (i 0 : ℕ) + (i 1 : ℕ)) + (i 2 : ℕ) % 32
      ∧ kb (16 * (i 0 : ℕ) + (i 1 : ℕ)) + (i 2 : ℕ) % 32 < cs (16 * (i 0 : ℕ) + (i 1 : ℕ)) + 16 then 1#1 else 0#1 := by
  pointwise [mask]
  exact cols_ok (i 0) (i 1) _

/-- The gathered columns of the table. -/
theorem biasCols_at (R : FVec Ideal S8x15x31 .f32) (i : S8x15x4x16x32.Idx)
    (h : cs (16 * (i 2 : ℕ) + (i 3 : ℕ)) ≤ kb (16 * (i 2 : ℕ) + (i 3 : ℕ)) + (i 4 : ℕ)
      ∧ kb (16 * (i 2 : ℕ) + (i 3 : ℕ)) + (i 4 : ℕ) < cs (16 * (i 2 : ℕ) + (i 3 : ℕ)) + 16) :
    biasCols R i = at3 R (i 0) (i 1) (kb (16 * (i 2 : ℕ) + (i 3 : ℕ)) + (i 4 : ℕ) + 15 - (16 * (i 2 : ℕ) + (i 3 : ℕ))) := by
  have hc : kb (16 * (i 2 : ℕ) + (i 3 : ℕ)) + (i 4 : ℕ) + 15 - (16 * (i 2 : ℕ) + (i 3 : ℕ)) < 31 := by
    have := h.2; unfold cs at this; omega
  exact (biasCol_at R iRelCol i ⟨_, hc⟩ (iRelCol_in (i 2) (i 3) (i 4) h)).trans (at3_of R _ rfl rfl rfl)

/-- The gathered rows and columns of the table. -/
theorem biasRows_at (R : FVec Ideal S8x15x31 .f32) (i : S8x64x8x4x16x32.Idx)
    (h : cs (16 * (i 3 : ℕ) + (i 4 : ℕ)) ≤ kb (16 * (i 3 : ℕ) + (i 4 : ℕ)) + (i 5 : ℕ)
      ∧ kb (16 * (i 3 : ℕ) + (i 4 : ℕ)) + (i 5 : ℕ) < cs (16 * (i 3 : ℕ) + (i 4 : ℕ)) + 16) :
    biasRows R i = at3 R (i 0) (rs (i 1) + (i 2 : ℕ) + 7 - (i 1 : ℕ))
      (kb (16 * (i 3 : ℕ) + (i 4 : ℕ)) + (i 5 : ℕ) + 15 - (16 * (i 3 : ℕ) + (i 4 : ℕ))) := by
  have h1 : (i 1 : ℕ) < 64 := (i 1).isLt
  have h2 : (i 2 : ℕ) < 8 := (i 2).isLt
  have hr : rs (i 1) + (i 2 : ℕ) + 7 - (i 1 : ℕ) < 15 := by unfold rs; omega
  exact (biasRow_at (biasCols R) iRelRow i ⟨_, hr⟩ (iRelRow_at (i 1) (i 2))).trans (biasCols_at R _ h)

/-- An entry of the near biases, inside the window's columns. -/
theorem bias_at (R : FVec Ideal S8x15x31 .f32) (i : S8x64x4x16x256.Idx)
    (h : cs (16 * (i 2 : ℕ) + (i 3 : ℕ)) ≤ kb (16 * (i 2 : ℕ) + (i 3 : ℕ)) + (i 4 : ℕ) % 32
      ∧ kb (16 * (i 2 : ℕ) + (i 3 : ℕ)) + (i 4 : ℕ) % 32 < cs (16 * (i 2 : ℕ) + (i 3 : ℕ)) + 16) :
    bias R i = at3 R (i 0) (rs (i 1) + (i 4 : ℕ) / 32 + 7 - (i 1 : ℕ))
      (kb (16 * (i 2 : ℕ) + (i 3 : ℕ)) + (i 4 : ℕ) % 32 + 15 - (16 * (i 2 : ℕ) + (i 3 : ℕ))) := by
  pointwise [bias]
  exact biasRows_at R _ h

/-- An entry of the near scores. -/
theorem sLoc_at (Q K : X2) (R : FVec Ideal S8x15x31 .f32) (i : S8x8x64x4x16x256.Idx) :
    sLoc Q K R i = rScore Q K R (i 0) (i 2) (16 * (i 3 : ℕ) + (i 4 : ℕ)) (i 1) (i 5) := by
  have h4 : (i 4 : ℕ) < 16 := (i 4).isLt
  have hk := kb_block (i 3) (i 4) h4
  have e := mask_at (ix3 (i 3) (i 4) (i 5) : S4x16x256.Idx)
  have hd : ∀ j, Host.dotGeneral dot_S8x8x64x4x16x64_S8x8x64x4x256x64_S8x8x64x4x16x256_5_5_4_4_0123_0123 none (queries Q) (near K) j = _ :=
    fun j => dot_near (queries Q) (near K) j
  unfold sLoc
  generalize Host.dotGeneral dot_S8x8x64x4x16x64_S8x8x64x4x256x64_S8x8x64x4x16x256_5_5_4_4_0123_0123 none (queries Q) (near K) = D at hd ⊢
  pointwise
  refine (congrArg (fun w => Scalar.select w _ _) e).trans ?_
  unfold rScore
  by_cases hP : cs (16 * (i 3 : ℕ) + (i 4 : ℕ)) ≤ kb (16 * (i 3 : ℕ) + (i 4 : ℕ)) + (i 5 : ℕ) % 32
      ∧ kb (16 * (i 3 : ℕ) + (i 4 : ℕ)) + (i 5 : ℕ) % 32 < cs (16 * (i 3 : ℕ) + (i 4 : ℕ)) + 16
  · refine (congrArg (fun w => Scalar.select w _ _) (if_pos hP)).trans ?_
    rw [if_pos hP]
    refine congrArg₂ (· + ·) (congrArg (· * _) ((hd i).trans (Finset.sum_congr rfl fun d _ => ?_))) (bias_at R _ hP)
    refine congrArg₂ (· * ·) (queries_at Q _) ((near_at K _).trans ?_)
    rw [hk]; rfl
  · refine (congrArg (fun w => Scalar.select w _ _) (if_neg hP)).trans ?_
    rw [if_neg hP]
    exact ninf_eq

/-- An entry of the context scores. -/
theorem sCtx_at (Q K : X2) (i : S8x8x64x4x16x256.Idx) :
    sCtx Q K i = cScore Q K (i 0) (i 2) (16 * (i 3 : ℕ) + (i 4 : ℕ)) (i 1) (i 5) := by
  have hd : ∀ j, Host.dotGeneral dot_S8x8x64x4x16x64_S8x8x256x64_S8x8x64x4x16x256_5_3_234_2_01_01 none (queries Q) (far K) j = _ :=
    fun j => dot_far (queries Q) (far K) j
  unfold sCtx
  generalize Host.dotGeneral dot_S8x8x64x4x16x64_S8x8x256x64_S8x8x64x4x16x256_5_3_234_2_01_01 none (queries Q) (far K) = D at hd ⊢
  pointwise
  refine congrArg (· * _) ((hd i).trans (Finset.sum_congr rfl fun d _ => ?_))
  exact congrArg₂ (· * ·) (queries_at Q _) (far_at K _)

end Cert.NaRefStage

end
-- ==== Proof.NaRefSoft.lean ====
module

public import proofs.«01_k».proof.Proof.NaRefStage
public import Idealize.ShloMosaic.Lib.IdealHost
public import proofs.«01_k».proof.Proof.NaRefDotNear
public import proofs.«01_k».proof.Proof.NaRefDotFar

@[expose] public section

set_option maxRecDepth 65536

noncomputable section

namespace Cert.NaRefStage

open Cert.NaRefIdeal Cert.NaRefIdeal.Gen Idealize.ShloMosaic Idealize.ShloMosaic.TcCoe Idealize.SL.Sem
open Cert.NaSoftmax Cert.NaSpec

section
variable {n0 n1 n2 n3 n4 n5 : ℕ}

/-- The indices of rank six over an index of rank five, along the last axis. -/
theorem drop6 (h : (⟨6, ![n0, n1, n2, n3, n4, n5]⟩ : Shape).ReducesTo [5] (⟨5, ![n0, n1, n2, n3, n4]⟩ : Shape))
    (j : (⟨5, ![n0, n1, n2, n3, n4]⟩ : Shape).Idx) (i : (⟨6, ![n0, n1, n2, n3, n4, n5]⟩ : Shape).Idx) :
    h.drop i = j ↔ ∃ k : Fin n5, (ix6 (j 0) (j 1) (j 2) (j 3) (j 4) k : (⟨6, ![n0, n1, n2, n3, n4, n5]⟩ : Shape).Idx) = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

/-- A fold along the last of six axes. -/
theorem fold6 {α : Type} (op : α → α → α) [Std.Commutative op] [Std.Associative op] {u : Shape}
    (h : (⟨6, ![n0, n1, n2, n3, n4, n5]⟩ : Shape).ReducesTo [5] (⟨5, ![n0, n1, n2, n3, n4]⟩ : Shape))
    (x : (⟨6, ![n0, n1, n2, n3, n4, n5]⟩ : Shape).Idx → α) (init : u.Idx → α) (hu : 0 < u.numel) (j : (⟨5, ![n0, n1, n2, n3, n4]⟩ : Shape).Idx) :
    Host.reduce op x init h hu j = (Finset.univ : Finset (Fin n5)).fold op (init (Shape.Idx.first hu))
      (fun k => x (ix6 (j 0) (j 1) (j 2) (j 3) (j 4) k : (⟨6, ![n0, n1, n2, n3, n4, n5]⟩ : Shape).Idx)) := by
  rw [Host.reduce_eq_fold]
  exact Finset.fold_filter_eq_fold_of_fiber op _ (fun k : Fin n5 => (ix6 (j 0) (j 1) (j 2) (j 3) (j 4) k : (⟨6, ![n0, n1, n2, n3, n4, n5]⟩ : Shape).Idx))
    (fun _ _ e => congrFun e 5) (drop6 h j) _ x

/-- A sum along the last of six axes. -/
theorem sum6 {u : Shape} (h : (⟨6, ![n0, n1, n2, n3, n4, n5]⟩ : Shape).ReducesTo [5] (⟨5, ![n0, n1, n2, n3, n4]⟩ : Shape))
    (x : FVec Ideal (⟨6, ![n0, n1, n2, n3, n4, n5]⟩ : Shape) .f32) (init : u.Idx → Ideal .f32) (hu : 0 < u.numel) (j : (⟨5, ![n0, n1, n2, n3, n4]⟩ : Shape).Idx) :
    Host.reduceAdd x init h hu j = init (Shape.Idx.first hu)
      + ∑ k : Fin n5, (x (ix6 (j 0) (j 1) (j 2) (j 3) (j 4) k : (⟨6, ![n0, n1, n2, n3, n4, n5]⟩ : Shape).Idx) : EReal) :=
  congrArg (init (Shape.Idx.first hu) + ·) (Finset.sum_filter_eq_sum_of_fiber _
    (fun k : Fin n5 => (ix6 (j 0) (j 1) (j 2) (j 3) (j 4) k : (⟨6, ![n0, n1, n2, n3, n4, n5]⟩ : Shape).Idx)) (fun _ _ e => congrFun e 5) (drop6 h j) x)

/-- The running maximum along the last of six axes, from the bottom element, joined with the bottom element. -/
theorem top6 {u : Shape} (w : BitVec 32) (hw : Ideal.ofBits FTy.f32 w = (⊥ : EReal)) (hb : (⟨0, ![]⟩ : Shape).BroadcastsInDim (⟨5, ![n0, n1, n2, n3, n4]⟩ : Shape) ![])
    (h : (⟨6, ![n0, n1, n2, n3, n4, n5]⟩ : Shape).ReducesTo [5] (⟨5, ![n0, n1, n2, n3, n4]⟩ : Shape))
    (x : FVec Ideal (⟨6, ![n0, n1, n2, n3, n4, n5]⟩ : Shape) .f32) (hu : 0 < u.numel) (j : (⟨5, ![n0, n1, n2, n3, n4]⟩ : Shape).Idx) :
    maximumf (broadcastInDim (⟨5, ![n0, n1, n2, n3, n4]⟩ : Shape) ![] hb (constant (F := Ideal) (⟨0, ![]⟩ : Shape) .f32 w))
      (Host.reduce FloatOps.maximumf x (constant u .f32 w) h hu) j
      = (Finset.univ.sup fun k : Fin n5 => (x (ix6 (j 0) (j 1) (j 2) (j 3) (j 4) k : (⟨6, ![n0, n1, n2, n3, n4, n5]⟩ : Shape).Idx) : EReal)) := by
  have e : Host.reduce FloatOps.maximumf x (constant u .f32 w) h hu j = (Finset.univ : Finset (Fin n5)).fold max (Ideal.ofBits FTy.f32 w)
      (fun k => (x (ix6 (j 0) (j 1) (j 2) (j 3) (j 4) k : (⟨6, ![n0, n1, n2, n3, n4, n5]⟩ : Shape).Idx) : EReal)) :=
    fold6 (FloatOps.maximumf : Ideal .f32 → Ideal .f32 → Ideal .f32) h x (constant u .f32 w) hu j
  show max (Ideal.ofBits FTy.f32 w) (Host.reduce FloatOps.maximumf x (constant u .f32 w) h hu j) = _
  rw [e, hw]
  exact max_eq_right bot_le

end

/-- A supremum over 512 is the larger of two over 256. -/
theorem sup_halves (f : Fin 512 → EReal) :
    Finset.univ.sup f = max (Finset.univ.sup fun x : Fin 256 => f ⟨(x : ℕ), by have := x.isLt; omega⟩)
      (Finset.univ.sup fun x : Fin 256 => f ⟨256 + (x : ℕ), by have := x.isLt; omega⟩) := by
  apply le_antisymm
  · refine Finset.sup_le fun a _ => ?_
    by_cases h : (a : ℕ) < 256
    · exact le_max_of_le_left (Finset.le_sup (f := fun x : Fin 256 => f ⟨(x : ℕ), by have := x.isLt; omega⟩) (Finset.mem_univ (⟨a, h⟩ : Fin 256)))
    · refine le_max_of_le_right (le_trans (le_of_eq ?_) (Finset.le_sup (f := fun x : Fin 256 => f ⟨256 + (x : ℕ), by have := x.isLt; omega⟩)
        (Finset.mem_univ (⟨(a : ℕ) - 256, by have := a.isLt; omega⟩ : Fin 256))))
      refine congrArg f (Fin.ext ?_)
      show (a : ℕ) = 256 + ((a : ℕ) - 256)
      omega
  · refine max_le (Finset.sup_le fun a _ => Finset.le_sup (Finset.mem_univ _)) (Finset.sup_le fun a _ => Finset.le_sup (Finset.mem_univ _))

/-- A sum over 512 is that of two over 256. -/
theorem sum_halves (f : Fin 512 → EReal) :
    ∑ x, f x = (∑ x : Fin 256, f ⟨(x : ℕ), by have := x.isLt; omega⟩) + ∑ x : Fin 256, f ⟨256 + (x : ℕ), by have := x.isLt; omega⟩ :=
  Fin.sum_univ_add (a := 256) (b := 256) f

variable (a b : FVec Ideal S8x8x64x4x16x256 .f32)

/-- A near key among all keys. -/
theorem sAll_left (i : S8x8x64x4x16.Idx) (x : Fin 256) (hx : (x : ℕ) < 512) :
    sAll a b (ix6 (i 0) (i 1) (i 2) (i 3) (i 4) ⟨(x : ℕ), hx⟩ : S8x8x64x4x16x512.Idx) = a (ix6 (i 0) (i 1) (i 2) (i 3) (i 4) x : S8x8x64x4x16x256.Idx) := by
  pointwise [sAll]

/-- A context key among all keys. -/
theorem sAll_right (i : S8x8x64x4x16.Idx) (x : Fin 256) (hx : 256 + (x : ℕ) < 512) :
    sAll a b (ix6 (i 0) (i 1) (i 2) (i 3) (i 4) ⟨256 + (x : ℕ), hx⟩ : S8x8x64x4x16x512.Idx) = b (ix6 (i 0) (i 1) (i 2) (i 3) (i 4) x : S8x8x64x4x16x256.Idx) := by
  pointwise [sAll]

/-- The scores of one query. -/
def sA (i : S8x8x64x4x16.Idx) (x : Fin 256) : EReal := a (ix6 (i 0) (i 1) (i 2) (i 3) (i 4) x : S8x8x64x4x16x256.Idx)

/-- The largest score of a query. -/
theorem top_at (i : S8x8x64x4x16.Idx) : top (sAll a b) i = top2 (sA a i) (sA b i) := by
  unfold top
  refine (top6 _ ninf_eq _ _ (sAll a b) _ i).trans ?_
  rw [sup_halves]
  unfold top2
  refine congrArg₂ max (congrArg Finset.univ.sup (funext fun x => ?_)) (congrArg Finset.univ.sup (funext fun x => ?_))
  · exact sAll_left a b i x _
  · exact sAll_right a b i x _

/-- A weight of a near key. -/
theorem wts_left (i : S8x8x64x4x16.Idx) (x : Fin 256) (hx : (x : ℕ) < 512) :
    wts (sAll a b) (ix6 (i 0) (i 1) (i 2) (i 3) (i 4) ⟨(x : ℕ), hx⟩ : S8x8x64x4x16x512.Idx) = Ideal.exp (sA a i x - top2 (sA a i) (sA b i)) := by
  pointwise [wts, over]
  refine congrArg Ideal.exp (congrArg₂ (· - ·) (sAll_left a b i x _) ((congrArg (top (sAll a b)) ?_).trans (top_at a b i)))
  exact funext fun q => match q with | ⟨0, _⟩ => rfl | ⟨1, _⟩ => rfl | ⟨2, _⟩ => rfl | ⟨3, _⟩ => rfl | ⟨4, _⟩ => rfl

/-- A weight of a context key. -/
theorem wts_right (i : S8x8x64x4x16.Idx) (x : Fin 256) (hx : 256 + (x : ℕ) < 512) :
    wts (sAll a b) (ix6 (i 0) (i 1) (i 2) (i 3) (i 4) ⟨256 + (x : ℕ), hx⟩ : S8x8x64x4x16x512.Idx) = Ideal.exp (sA b i x - top2 (sA a i) (sA b i)) := by
  pointwise [wts, over]
  refine congrArg Ideal.exp (congrArg₂ (· - ·) (sAll_right a b i x _) ((congrArg (top (sAll a b)) ?_).trans (top_at a b i)))
  exact funext fun q => match q with | ⟨0, _⟩ => rfl | ⟨1, _⟩ => rfl | ⟨2, _⟩ => rfl | ⟨3, _⟩ => rfl | ⟨4, _⟩ => rfl

/-- The sum of the weights of a query. -/
theorem den_at (i : S8x8x64x4x16.Idx) : den (wts (sAll a b)) i = den2 (sA a i) (sA b i) (top2 (sA a i) (sA b i)) := by
  unfold den
  refine (sum6 _ _ _ _ i).trans ?_
  refine (congrArg (· + _) (Ideal.ofBits_zero FTy.f32)).trans ?_
  refine (zero_add _).trans ?_
  rw [sum_halves]
  unfold den2
  exact congrArg₂ (· + ·) (Finset.sum_congr rfl fun x _ => wts_left a b i x _) (Finset.sum_congr rfl fun x _ => wts_right a b i x _)

/-- A quotient of weights. -/
theorem prob_at (w : FVec Ideal S8x8x64x4x16x512 .f32) (j : S8x8x64x4x16x512.Idx) :
    prob w j = Ideal.div (w j) (den w (ix5 (j 0) (j 1) (j 2) (j 3) (j 4) : S8x8x64x4x16.Idx)) := by
  unfold prob
  generalize den w = d
  pointwise [over]

/-- The weighted sum of the values of a query. -/
theorem sum_at (p : FVec Ideal S8x8x64x4x16x512 .f32) (V : X2) (i : S8x8x64x4x16x64.Idx) :
    mixed p V i = (∑ x : Fin 256, p (ix6 (i 0) (i 1) (i 2) (i 3) (i 4) ⟨(x : ℕ), by have := x.isLt; omega⟩ : S8x8x64x4x16x512.Idx)
          * near V (ix6 (i 0) (i 1) (i 2) (i 3) x (i 5) : S8x8x64x4x256x64.Idx))
      + ∑ x : Fin 256, p (ix6 (i 0) (i 1) (i 2) (i 3) (i 4) ⟨256 + (x : ℕ), by have := x.isLt; omega⟩ : S8x8x64x4x16x512.Idx)
          * far V (ix4 (i 0) (i 1) x (i 5) : S8x8x256x64.Idx) := by
  unfold mixed
  refine congrArg₂ (· + ·) ((mix_near _ (near V) i).trans (Finset.sum_congr rfl fun x _ => congrArg (· * _) ?_))
    ((mix_far _ (far V) i).trans (Finset.sum_congr rfl fun x _ => congrArg (· * _) ?_))
  · pointwise
  · pointwise

/-- The softmax weight of a near key. -/
theorem prob_left (i : S8x8x64x4x16.Idx) (x : Fin 256) (hx : (x : ℕ) < 512) :
    prob (wts (sAll a b)) (ix6 (i 0) (i 1) (i 2) (i 3) (i 4) ⟨(x : ℕ), hx⟩ : S8x8x64x4x16x512.Idx)
      = Ideal.div (Ideal.exp (sA a i x - top2 (sA a i) (sA b i))) (den2 (sA a i) (sA b i) (top2 (sA a i) (sA b i))) := by
  rw [prob_at, wts_left]
  refine congrArg (Ideal.div _) ((congrArg (den (wts (sAll a b))) ?_).trans (den_at a b i))
  exact funext fun q => match q with | ⟨0, _⟩ => rfl | ⟨1, _⟩ => rfl | ⟨2, _⟩ => rfl | ⟨3, _⟩ => rfl | ⟨4, _⟩ => rfl

/-- The softmax weight of a context key. -/
theorem prob_right (i : S8x8x64x4x16.Idx) (x : Fin 256) (hx : 256 + (x : ℕ) < 512) :
    prob (wts (sAll a b)) (ix6 (i 0) (i 1) (i 2) (i 3) (i 4) ⟨256 + (x : ℕ), hx⟩ : S8x8x64x4x16x512.Idx)
      = Ideal.div (Ideal.exp (sA b i x - top2 (sA a i) (sA b i))) (den2 (sA a i) (sA b i) (top2 (sA a i) (sA b i))) := by
  rw [prob_at, wts_right]
  refine congrArg (Ideal.div _) ((congrArg (den (wts (sAll a b))) ?_).trans (den_at a b i))
  exact funext fun q => match q with | ⟨0, _⟩ => rfl | ⟨1, _⟩ => rfl | ⟨2, _⟩ => rfl | ⟨3, _⟩ => rfl | ⟨4, _⟩ => rfl

/-- The attention of a query. -/
theorem mixed_at (V : X2) (i : S8x8x64x4x16x64.Idx) (j : S8x8x64x4x16.Idx) (h0 : j 0 = i 0) (h1 : j 1 = i 1) (h2 : j 2 = i 2)
    (h3 : j 3 = i 3) (h4 : j 4 = i 4) :
    mixed (prob (wts (sAll a b))) V i
      = divBefore (sA a j) (fun x => near V (ix6 (i 0) (i 1) (i 2) (i 3) x (i 5) : S8x8x64x4x256x64.Idx))
          (sA b j) (fun x => far V (ix4 (i 0) (i 1) x (i 5) : S8x8x256x64.Idx)) := by
  refine (sum_at (prob (wts (sAll a b))) V i).trans ?_
  rw [← h0, ← h1, ← h2, ← h3, ← h4]
  unfold divBefore
  refine congrArg₂ (· + ·) (Finset.sum_congr rfl fun x _ => ?_) (Finset.sum_congr rfl fun x _ => ?_)
  · rw [prob_left]
  · rw [prob_right]

end Cert.NaRefStage

end
-- ==== Proof.NaRows.lean ====
module

public import proofs.«01_k».proof.Proof.NaRefAt
public import proofs.«01_k».proof.Proof.NaRefSoft

@[expose] public section

set_option maxRecDepth 65536

noncomputable section

namespace Cert.NaRefStage

open Cert.NaRefIdeal Cert.NaRefIdeal.Gen Idealize.ShloMosaic Idealize.ShloMosaic.TcCoe Idealize.SL.Sem
open Cert.NaSoftmax Cert.NaSpec Cert.NaGather

/-- The reference's attention before its rows are laid out, entry by entry. -/
theorem mixed_ref (Q K V : FVec Ideal S34816x512 .bf16) (R : FVec Ideal S8x15x31 .f32) (i : S8x8x64x4x16x64.Idx) :
    mixed (prob (wts (sAll (sLoc Q K R) (sCtx Q K)))) V i
      = refAt Q K V R (i 0) (i 2) (16 * (i 3 : ℕ) + (i 4 : ℕ)) (i 1) (i 5) := by
  refine (mixed_at (sLoc Q K R) (sCtx Q K) V i (ix5 (i 0) (i 1) (i 2) (i 3) (i 4)) rfl rfl rfl rfl rfl).trans ?_
  unfold refAt
  have e1 : sA (sLoc Q K R) (ix5 (i 0) (i 1) (i 2) (i 3) (i 4))
      = fun x : Fin 256 => rScore Q K R (i 0) (i 2) (16 * (i 3 : ℕ) + (i 4 : ℕ)) (i 1) x := funext fun x => sLoc_at Q K R _
  have e2 : sA (sCtx Q K) (ix5 (i 0) (i 1) (i 2) (i 3) (i 4))
      = fun x : Fin 256 => cScore Q K (i 0) (i 2) (16 * (i 3 : ℕ) + (i 4 : ℕ)) (i 1) x := funext fun x => sCtx_at Q K _
  have e3 : (fun x : Fin 256 => near V (ix6 (i 0) (i 1) (i 2) (i 3) x (i 5)))
      = fun x : Fin 256 => at2 V (4096 * (i 0 : ℕ) + 64 * (rs (i 2) + x / 32) + (kb (16 * (i 3 : ℕ) + (i 4 : ℕ)) + x % 32)) (64 * (i 1 : ℕ) + (i 5 : ℕ)) :=
    funext fun x => by rw [kb_block _ _ (i 4).isLt]; exact near_at V _
  have e4 : (fun x : Fin 256 => far V (ix4 (i 0) (i 1) x (i 5)))
      = fun x : Fin 256 => at2 V (32768 + 256 * (i 0 : ℕ) + x) (64 * (i 1 : ℕ) + (i 5 : ℕ)) := funext fun x => far_at V _
  rw [e1, e2, e3, e4]

/-- The rows of the result, entry by entry. -/
theorem rows_at (o : FVec Ideal S8x8x64x4x16x64 .f32) (i : S34816x512.Idx) :
    rows o i = if h : (i 0 : ℕ) < 32768 then
      o (ix6 ⟨(i 0 : ℕ) / 4096, by omega⟩ ⟨(i 1 : ℕ) / 64, by have : (i 1 : ℕ) < 512 := (i 1).isLt; omega⟩ ⟨(i 0 : ℕ) % 4096 / 64, by omega⟩
        ⟨(i 0 : ℕ) % 4096 / 16 % 4, by omega⟩ ⟨(i 0 : ℕ) % 4096 % 16, by omega⟩ ⟨(i 1 : ℕ) % 64, by omega⟩) else 0 := by
  pointwise [rows]

/-- The reference's result, entry by entry. -/
theorem res_at (Q K V : FVec Ideal S34816x512 .bf16) (R : FVec Ideal S8x15x31 .f32) (i : S34816x512.Idx) :
    rows (mixed (prob (wts (sAll (sLoc Q K R) (sCtx Q K)))) V) i
      = if (i 0 : ℕ) < 32768 then
        refAt Q K V R ((i 0 : ℕ) / 4096) ((i 0 : ℕ) % 4096 / 64) ((i 0 : ℕ) % 64) ((i 1 : ℕ) / 64) ((i 1 : ℕ) % 64) else 0 := by
  refine (rows_at _ i).trans ?_
  by_cases h : (i 0 : ℕ) < 32768
  · rw [dif_pos h, if_pos h]
    refine (mixed_ref Q K V R _).trans ?_
    show refAt Q K V R ((i 0 : ℕ) / 4096) ((i 0 : ℕ) % 4096 / 64) (16 * ((i 0 : ℕ) % 4096 / 16 % 4) + (i 0 : ℕ) % 4096 % 16) ((i 1 : ℕ) / 64) ((i 1 : ℕ) % 64) = _
    rw [show 16 * ((i 0 : ℕ) % 4096 / 16 % 4) + (i 0 : ℕ) % 4096 % 16 = (i 0 : ℕ) % 64 by omega]
  · rw [dif_neg h, if_neg h]

end Cert.NaRefStage

end
-- ==== Proof.NaPair.lean ====
module

public import proofs.«01_k».proof.Defs
public import proofs.«01_k».proof.Proof.NaFinite
public import proofs.«01_k».proof.Proof.NaFinal
public import proofs.«01_k».proof.Proof.NaRows

@[expose] public section

set_option maxRecDepth 65536

noncomputable section

namespace Cert.NaPair

open Idealize.ShloMosaic Idealize.ShloMosaic.TcCoe Idealize.SL.Sem
open Idealize.ShloMosaic.Pipeline (Dat)
open Cert.NaIdeal Cert.NaIdeal.Gen Cert.NaSpec Cert.NaSoftmax Cert.NaRefStage

/-- On real queries, keys and biases the kernel's result array is the reference's. -/
theorem final6 (m : (ℓ : Loc nD τ sig) → Buf (Elt Ideal) ℓ) (c : Dev nD)
    (hQ : ∀ i : S34816x512.Idx, IsReal (m ((c.tc : Thread nD τ).loc main_arg0) i))
    (hK : ∀ i : S34816x512.Idx, IsReal (m ((c.tc : Thread nD τ).loc main_arg1) i))
    (hR : ∀ i : S8x15x31.Idx, IsReal (m ((c.tc : Thread nD τ).loc main_arg3) i)) :
    (dats m 0 c).arrAt 6 cfg0.N
      = rows (mixed (prob (wts (sAll (sLoc (m ((c.tc : Thread nD τ).loc main_arg0)) (m ((c.tc : Thread nD τ).loc main_arg1)) (m ((c.tc : Thread nD τ).loc main_arg3)))
          (sCtx (m ((c.tc : Thread nD τ).loc main_arg0)) (m ((c.tc : Thread nD τ).loc main_arg1)))))) (m ((c.tc : Thread nD τ).loc main_arg2))) := by
  funext i
  refine (NaPoint.final_at m c i).trans ((res_at _ _ _ _ i).trans ?_).symm
  by_cases h : (i 0 : ℕ) < 32768
  · rw [if_pos h, if_pos h]
    exact (kernel_eq_ref _ _ _ _ hQ hK hR _ _ _ _ _ (by omega) (by omega)).symm
  · rw [if_neg h, if_neg h]

/-- The attention call's result is its reference's, on real queries, keys and biases. -/
theorem algebraic : Cert.algebraic_NaIdeal_NaRefIdeal_pre_na_finite := by
  intro m g m' g' hpre hag
  refine ⟨_, NaIdeal.Value.run_blocks m g, ?_⟩
  refine (θ_run _ _ _).mono (fun r h c => ?_) (NaRefIdeal.Value.run m' g')
  have h' := h c
  obtain ⟨hQ, hK, hR⟩ := NaFinite.real_of_pre _ _ _ _ (hpre c)
  obtain ⟨a0, a1, a2, a3⟩ := hag c
  rw [final6 m c hQ hK hR, ← a0, ← a1, ← a2, ← a3]
  rw [res_eq] at h'
  exact h'

/-- The attention reference ends with its arguments unchanged and every semaphore at zero. -/
theorem frame_ref : Cert.quiescent_NaRefIdeal := by
  intro m g _
  exact (θ_run Cert.NaRefIdeal.defs _ _).mono (fun r h => ⟨fun c => (h c).2, sem_eq_zero_of_no_sems (by decide) r.2⟩)
    (Cert.NaRefIdeal.Value.run (F := Ideal) m g)

end Cert.NaPair

end
-- ==== Proof.MixValue.lean ====
module

public import proofs.«01_k».proof.Proof.Gen.MixIdeal.Value
public import proofs.«01_k».proof.Proof.Gen.MixRefIdeal.Read
public import Idealize.ShloMosaic.Lib.Pipeline.ValueKit
public import Idealize.ShloMosaic.Lib.Pointwise

@[expose] public section

set_option maxRecDepth 65536

noncomputable section

namespace Cert.MixValue

open Idealize.ShloMosaic Idealize.ShloMosaic.TcCoe Idealize.SL.Sem
open Idealize.ShloMosaic.Pipeline (Dat)
open Cert.MixIdeal Cert.MixIdeal.Gen

/-- The row of a modulation table a token reads: its sequence's, or the last row for a context token. -/
def modRow (I : Fin 34816) : Fin 9 := ⟨if I.val < 32768 then I.val / 4096 else 8, by split <;> omega⟩

/-- The merged branches of one token: each branch's row through its matrix, weighted by its gate. -/
def mergeRow (yc z x0 hb ysc att : Fin 512 → EReal) (ga gb gc : Fin 1024 → EReal) (w1 w2 w3 : Fin 512 → Fin 1024 → EReal)
    (n : Fin 1024) : EReal :=
  Ideal.logistic (ga n) * ∑ k, x0 k * (yc k + z k * hb k) * w1 k n + Ideal.logistic (gb n) * ∑ k, ysc k * w2 k n
    + Ideal.logistic (gc n) * ∑ k, att k * w3 k n

/-- The residual row: the scaled input plus the gated output projection of the merged row. -/
def resRow (xa g1 mg : Fin 1024 → EReal) (wo : Fin 1024 → Fin 1024 → EReal) (n : Fin 1024) : EReal :=
  Ideal.ofBits FTy.f32 1071072509#32 * xa n + g1 n * ∑ k, mg k * wo k n

/-- The row's mean. -/
def mean (y : Fin 1024 → EReal) : EReal := Ideal.div (∑ k, y k) (Ideal.ofBits FTy.f32 1149239296#32)

/-- Layer normalization of a row, with gain and offset. -/
def lnorm (y g b : Fin 1024 → EReal) (n : Fin 1024) : EReal :=
  (y n - mean y) * Ideal.rsqrt (mean (fun k => (y k - mean y) * (y k - mean y)) + Ideal.ofBits FTy.f32 925353388#32) * g n + b n

/-- The block indices of the windows at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![if t.val < 128 then t.val / 16 else 8, 0, 0] ∧ win0_8.index t = ![if t.val < 128 then t.val / 16 else 8, 0, 0]
    ∧ win0_9.index t = ![if t.val < 128 then t.val / 16 else 8, 0, 0]
    ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0]
    ∧ win0_17.index t = ![t.val, 0] ∧ win0_18.index t = ![t.val, 0] :=
  (by decide +kernel : ∀ t : Fin grid0.N, _)

/-- The first two branches' weighted sum in a block, entry by entry. -/
theorem pay2 (v0 v1 v2 : Vec Ideal S256x512 .f32) (v3 : Vec Ideal S1x512 .f32) (v9 : Vec Ideal S256x1024 .f32) (v12 : Vec Ideal S512x1024 .bf16)
    (v16 : Vec Ideal S256x1024 .f32) (v18 : Vec Ideal S256x512 .f32) (v20 : Vec Ideal S512x1024 .bf16)
    (v25 : Vec Ideal S256x1024 .f32) (v27 : Vec Ideal S256x512 .bf16) (v28 : Vec Ideal S512x1024 .bf16) (r : Fin 256) (n : Fin 1024) :
    k0_pay2 v0 v1 v2 v3 v9 v12 v16 v18 v20 (ix2 r n) + k0_pay3 v25 v27 v28 (ix2 r n)
      = mergeRow (fun k => v1 (ix2 r k)) (fun k => v2 (ix2 r k)) (fun k => v0 (ix2 r k)) (fun k => v3 (ix2 0 k)) (fun k => v18 (ix2 r k))
        (fun k => v27 (ix2 r k)) (fun n => v9 (ix2 r n)) (fun n => v16 (ix2 r n)) (fun n => v25 (ix2 r n))
        (fun k n => v12 (ix2 k n)) (fun k n => v20 (ix2 k n)) (fun k n => v28 (ix2 k n)) n := by
  pointwise [k0_pay2, k0_pay3]
  rfl

/-- The normalized residual of a block, entry by entry. -/
theorem pay4 (v24 v31 : FVec Ideal S256x1024 .f32) (v34 : Vec Ideal S1024x1024 .bf16) (v37 : Vec Ideal S256x1024 .f32)
    (v40 : Vec Ideal S1x1x1024 .f32) (v45 v47 : Vec Ideal S1x1024 .f32) (r : Fin 256) (n : Fin 1024) :
    k0_pay4 v24 v31 v34 v37 v40 v45 v47 (ix2 r n)
      = lnorm (resRow (fun k => v37 (ix2 r k)) (fun k => v40 (ix3 0 0 k)) (fun k => v24 (ix2 r k) + v31 (ix2 r k)) (fun k n => v34 (ix2 k n)))
        (fun k => v45 (ix2 0 k)) (fun k => v47 (ix2 0 k)) n := by
  pointwise [k0_pay4]
  rfl

section Reference

variable (x0 x1 x2 x3 : FVec Ideal S34816x512 .f32) (x4 : FVec Ideal S34816x512 .bf16) (x5 : FVec Ideal S34816x3072 .f32)
  (x6 : FVec Ideal S34816x1024 .f32) (x7 x8 x9 : FVec Ideal S9x1x1024 .f32) (x10 : FVec Ideal S512 .f32)
  (x11 x12 x13 : FVec Ideal MixRefIdeal.S512x1024 .f32) (x14 : FVec Ideal MixRefIdeal.S1024x1024 .f32)
  (x15 x16 : FVec Ideal S1024 .f32) (I : Fin 34816) (n : Fin 1024)

/-- The merged branches of a token, from the whole arrays. -/
def refMerge : Fin 1024 → EReal :=
  mergeRow (fun k => x0 (ix2 I k)) (fun k => x1 (ix2 I k)) (fun k => x2 (ix2 I k)) (fun k => x10 (ix1 k)) (fun k => x3 (ix2 I k))
    (fun k => x4 (ix2 I k)) (fun n => x5 (ix2 I ⟨n.val, by omega⟩)) (fun n => x5 (ix2 I ⟨1024 + n.val, by omega⟩))
    (fun n => x5 (ix2 I ⟨2048 + n.val, by omega⟩)) (fun k n => x11 (ix2 k n)) (fun k n => x12 (ix2 k n)) (fun k n => x13 (ix2 k n))

/-- A token's first result, from the whole arrays. -/
def refOut : EReal :=
  lnorm (resRow (fun k => x6 (ix2 I k)) (fun k => x7 (ix3 (modRow I) 0 k)) (refMerge x0 x1 x2 x3 x4 x5 x10 x11 x12 x13 I)
    (fun k n => x14 (ix2 k n))) (fun k => x15 (ix1 k)) (fun k => x16 (ix1 k)) n

/-- The reference's merged branches, entry by entry. -/
theorem ref22 : MixRefIdeal.Read.val_main_v22 (F := Ideal) x0 x1 x2 x3 x4 x5 x10 x11 x12 x13 (ix2 I n)
    = refMerge x0 x1 x2 x3 x4 x5 x10 x11 x12 x13 I n := by
  pointwise [MixRefIdeal.Read.val_main_v22, MixRefIdeal.Read.val_main_v21, MixRefIdeal.Read.val_main_v20, MixRefIdeal.Read.val_main_v19, MixRefIdeal.Read.val_main_v18, MixRefIdeal.Read.val_main_v17, MixRefIdeal.Read.val_main_v16, MixRefIdeal.Read.val_main_v15, MixRefIdeal.Read.val_main_v14, MixRefIdeal.Read.val_main_v13, MixRefIdeal.Read.val_main_v12, MixRefIdeal.Read.val_main_v11, MixRefIdeal.Read.val_main_v10, MixRefIdeal.Read.val_main_v9, MixRefIdeal.Read.val_main_v8, MixRefIdeal.Read.val_main_v7, MixRefIdeal.Read.val_main_v6, MixRefIdeal.Read.val_main_v5, MixRefIdeal.Read.val_main_v4, MixRefIdeal.Read.val_main_v3, MixRefIdeal.Read.val_main_v2, MixRefIdeal.Read.val_main_v1, MixRefIdeal.Read.val_main_v0, MixRefIdeal.Read.val_main_cst, MixRefIdeal.Read.val_main_cst_0]
  rfl

/-- The reference's rows of the gate table, token by token. -/
theorem tok_gate : MixRefIdeal.Read.val_main_v31 (F := Ideal) x7 (ix2 I n) = x7 (ix3 (modRow I) 0 n) := by
  pointwise [MixRefIdeal.Read.val_main_v31, MixRefIdeal.Read.val_main_v30, MixRefIdeal.Read.val_main_v29, MixRefIdeal.Read.val_main_v28, MixRefIdeal.Read.val_main_v27, MixRefIdeal.Read.val_main_v26, MixRefIdeal.Read.val_main_v25]
  by_cases h : (I : ℕ) < 32768
  · rw [dif_pos h]; refine congrArg x7 ((ix3_inj ..).2 ⟨Fin.ext ?_, rfl, rfl⟩); simp [modRow, h]
  · rw [dif_neg h]; refine congrArg x7 ((ix3_inj ..).2 ⟨Fin.ext ?_, rfl, rfl⟩); simp [modRow, h]

/-- The reference's rows of the scale table, token by token. -/
theorem tok_scale : MixRefIdeal.Read.val_main_v65 (F := Ideal) x9 (ix2 I n) = x9 (ix3 (modRow I) 0 n) := tok_gate x9 I n

/-- The reference's rows of the shift table, token by token. -/
theorem tok_shift : MixRefIdeal.Read.val_main_v75 (F := Ideal) x8 (ix2 I n) = x8 (ix3 (modRow I) 0 n) := tok_gate x8 I n

/-- The reference's residual, entry by entry. -/
theorem ref34 : MixRefIdeal.Read.val_main_v34 (F := Ideal) x0 x1 x2 x3 x4 x5 x6 x7 x10 x11 x12 x13 x14 (ix2 I n)
    = resRow (fun k => x6 (ix2 I k)) (fun k => x7 (ix3 (modRow I) 0 k)) (refMerge x0 x1 x2 x3 x4 x5 x10 x11 x12 x13 I)
      (fun k n => x14 (ix2 k n)) n := by
  pointwise [MixRefIdeal.Read.val_main_v34, MixRefIdeal.Read.val_main_v33, MixRefIdeal.Read.val_main_v32, MixRefIdeal.Read.val_main_v24, MixRefIdeal.Read.val_main_v23, MixRefIdeal.Read.val_main_cst_1]
  simp only [ref22, tok_gate]
  rfl

/-- The reference's first result, entry by entry. -/
theorem ref58 : MixRefIdeal.Read.val_main_v58 (F := Ideal) x0 x1 x2 x3 x4 x5 x6 x7 x10 x11 x12 x13 x14 x15 x16 (ix2 I n)
    = refOut x0 x1 x2 x3 x4 x5 x6 x7 x10 x11 x12 x13 x14 x15 x16 I n := by
  pointwise [MixRefIdeal.Read.val_main_v58, MixRefIdeal.Read.val_main_v57, MixRefIdeal.Read.val_main_v56, MixRefIdeal.Read.val_main_v55, MixRefIdeal.Read.val_main_v54, MixRefIdeal.Read.val_main_v53, MixRefIdeal.Read.val_main_v52, MixRefIdeal.Read.val_main_v51, MixRefIdeal.Read.val_main_v50, MixRefIdeal.Read.val_main_v49, MixRefIdeal.Read.val_main_v48, MixRefIdeal.Read.val_main_v47, MixRefIdeal.Read.val_main_v46, MixRefIdeal.Read.val_main_v45, MixRefIdeal.Read.val_main_v44, MixRefIdeal.Read.val_main_v43, MixRefIdeal.Read.val_main_v42, MixRefIdeal.Read.val_main_v41, MixRefIdeal.Read.val_main_v40, MixRefIdeal.Read.val_main_v39, MixRefIdeal.Read.val_main_v38, MixRefIdeal.Read.val_main_v37, MixRefIdeal.Read.val_main_v36, MixRefIdeal.Read.val_main_v35, MixRefIdeal.Read.val_main_cst_2, MixRefIdeal.Read.val_main_cst_3, MixRefIdeal.Read.val_main_cst_4, MixRefIdeal.Read.val_main_cst_5, MixRefIdeal.Read.val_main_cst_6]
  simp only [ref34]
  rfl

/-- The reference's second result, entry by entry. -/
theorem ref76 : MixRefIdeal.Read.val_main_v76 (F := Ideal) x0 x1 x2 x3 x4 x5 x6 x7 x8 x9 x10 x11 x12 x13 x14 x15 x16 (ix2 I n)
    = refOut x0 x1 x2 x3 x4 x5 x6 x7 x10 x11 x12 x13 x14 x15 x16 I n * (1 + x9 (ix3 (modRow I) 0 n)) + x8 (ix3 (modRow I) 0 n) := by
  pointwise [MixRefIdeal.Read.val_main_v76, MixRefIdeal.Read.val_main_v68, MixRefIdeal.Read.val_main_v67, MixRefIdeal.Read.val_main_v66, MixRefIdeal.Read.val_main_cst_7]
  rw [ref58, tok_scale, tok_shift]

end Reference

variable (m : (ℓ : Loc nD τ sig) → Buf (Elt Ideal) ℓ)

/-- The token a block's row is. -/
abbrev tokOf (t : Fin cfg0.N) (r : Fin 256) : Fin 34816 := ⟨t.val * 256 + r.val, by have := lt_of_lt_of_eq t.isLt Gen.N_0; omega⟩

/-- Window 0's block holds its tokens' rows of the argument. -/
theorem blk0 (c : Dev nD) (t : Fin cfg0.N) (r : Fin 256) (k : Fin 512) :
    iblk m c 0 t (ix2 r k : S256x512.Idx) = m ((c : Thread nD τ).loc main_arg0) (ix2 (tokOf t r) k : S34816x512.Idx) := by
  blk_point [iblk, V, idx t]

/-- Window 1's block holds its tokens' rows of the argument. -/
theorem blk1 (c : Dev nD) (t : Fin cfg0.N) (r : Fin 256) (k : Fin 512) :
    iblk m c 1 t (ix2 r k : S256x512.Idx) = m ((c : Thread nD τ).loc main_arg1) (ix2 (tokOf t r) k : S34816x512.Idx) := by
  blk_point [iblk, V, idx t]

/-- Window 2's block holds its tokens' rows of the argument. -/
theorem blk2 (c : Dev nD) (t : Fin cfg0.N) (r : Fin 256) (k : Fin 512) :
    iblk m c 2 t (ix2 r k : S256x512.Idx) = m ((c : Thread nD τ).loc main_arg2) (ix2 (tokOf t r) k : S34816x512.Idx) := by
  blk_point [iblk, V, idx t]

/-- Window 3's block holds its tokens' rows of the argument. -/
theorem blk3 (c : Dev nD) (t : Fin cfg0.N) (r : Fin 256) (k : Fin 512) :
    iblk m c 3 t (ix2 r k : S256x512.Idx) = m ((c : Thread nD τ).loc main_arg3) (ix2 (tokOf t r) k : S34816x512.Idx) := by
  blk_point [iblk, V, idx t]

/-- Window 4's block holds its tokens' rows of the argument. -/
theorem blk4 (c : Dev nD) (t : Fin cfg0.N) (r : Fin 256) (k : Fin 512) :
    iblk m c 4 t (ix2 r k : S256x512.Idx) = m ((c : Thread nD τ).loc main_arg4) (ix2 (tokOf t r) k : S34816x512.Idx) := by
  blk_point [iblk, V, idx t]

/-- Window 6's block holds its tokens' rows of the argument. -/
theorem blk6 (c : Dev nD) (t : Fin cfg0.N) (r : Fin 256) (k : Fin 1024) :
    iblk m c 6 t (ix2 r k : S256x1024.Idx) = m ((c : Thread nD τ).loc main_arg6) (ix2 (tokOf t r) k : S34816x1024.Idx) := by
  blk_point [iblk, V, idx t]

/-- The gates from column 0 on, in a block. -/
theorem gate2 (c : Dev nD) (t : Fin cfg0.N) (r : Fin 256) (n : Fin 1024) :
    View.ld (iblk m c 5 t) r0_2 (ix2 r n : S256x1024.Idx)
      = m ((c : Thread nD τ).loc main_arg5) (ix2 (tokOf t r) ⟨n.val, by omega⟩ : S34816x3072.Idx) := by
  pointwise []
  blk_point [iblk, V, idx t]

/-- The gates from column 1024 on, in a block. -/
theorem gate4 (c : Dev nD) (t : Fin cfg0.N) (r : Fin 256) (n : Fin 1024) :
    View.ld (iblk m c 5 t) r0_4 (ix2 r n : S256x1024.Idx)
      = m ((c : Thread nD τ).loc main_arg5) (ix2 (tokOf t r) ⟨1024 + n.val, by omega⟩ : S34816x3072.Idx) := by
  pointwise []
  blk_point [iblk, V, idx t]

/-- The gates from column 2048 on, in a block. -/
theorem gate5 (c : Dev nD) (t : Fin cfg0.N) (r : Fin 256) (n : Fin 1024) :
    View.ld (iblk m c 5 t) r0_5 (ix2 r n : S256x1024.Idx)
      = m ((c : Thread nD τ).loc main_arg5) (ix2 (tokOf t r) ⟨2048 + n.val, by omega⟩ : S34816x3072.Idx) := by
  pointwise []
  blk_point [iblk, V, idx t]

/-- Window 7's block holds its tokens' row of the modulation table. -/
theorem blk7 (c : Dev nD) (t : Fin cfg0.N) (r : Fin 256) (k : Fin 1024) :
    iblk m c 7 t (ix3 0 0 k : S1x1x1024.Idx) = m ((c : Thread nD τ).loc main_arg7) (ix3 (modRow (tokOf t r)) 0 k : S9x1x1024.Idx) := by
  blk_point [iblk, V, idx t, modRow, tokOf]
  all_goals (split <;> split <;> omega)

/-- Window 8's block holds its tokens' row of the modulation table. -/
theorem blk8 (c : Dev nD) (t : Fin cfg0.N) (r : Fin 256) (k : Fin 1024) :
    iblk m c 8 t (ix3 0 0 k : S1x1x1024.Idx) = m ((c : Thread nD τ).loc main_arg8) (ix3 (modRow (tokOf t r)) 0 k : S9x1x1024.Idx) := by
  blk_point [iblk, V, idx t, modRow, tokOf]
  all_goals (split <;> split <;> omega)

/-- Window 9's block holds its tokens' row of the modulation table. -/
theorem blk9 (c : Dev nD) (t : Fin cfg0.N) (r : Fin 256) (k : Fin 1024) :
    iblk m c 9 t (ix3 0 0 k : S1x1x1024.Idx) = m ((c : Thread nD τ).loc main_arg9) (ix3 (modRow (tokOf t r)) 0 k : S9x1x1024.Idx) := by
  blk_point [iblk, V, idx t, modRow, tokOf]
  all_goals (split <;> split <;> omega)

/-- Window 10's block is the argument, as one row. -/
theorem blk10 (c : Dev nD) (t : Fin cfg0.N) (k : Fin 512) :
    iblk m c 10 t (ix2 0 k : S1x512.Idx) = m ((c : Thread nD τ).loc main_arg10) (ix1 k : S512.Idx) := by
  blk_point [iblk, V, idx t]

/-- Window 15's block is the argument, as one row. -/
theorem blk15 (c : Dev nD) (t : Fin cfg0.N) (k : Fin 1024) :
    iblk m c 15 t (ix2 0 k : S1x1024.Idx) = m ((c : Thread nD τ).loc main_arg15) (ix1 k : S1024.Idx) := by
  blk_point [iblk, V, idx t]

/-- Window 16's block is the argument, as one row. -/
theorem blk16 (c : Dev nD) (t : Fin cfg0.N) (k : Fin 1024) :
    iblk m c 16 t (ix2 0 k : S1x1024.Idx) = m ((c : Thread nD τ).loc main_arg16) (ix1 k : S1024.Idx) := by
  blk_point [iblk, V, idx t]

/-- Window 11's block is the argument's matrix. -/
theorem blk11 (c : Dev nD) (t : Fin cfg0.N) (k : Fin 512) (n : Fin 1024) :
    iblk m c 11 t (ix2 k n : S512x1024.Idx) = m ((c : Thread nD τ).loc main_arg11) (ix2 k n : S512x1024.Idx) := by
  blk_point [iblk, V, idx t]

/-- Window 12's block is the argument's matrix. -/
theorem blk12 (c : Dev nD) (t : Fin cfg0.N) (k : Fin 512) (n : Fin 1024) :
    iblk m c 12 t (ix2 k n : S512x1024.Idx) = m ((c : Thread nD τ).loc main_arg12) (ix2 k n : S512x1024.Idx) := by
  blk_point [iblk, V, idx t]

/-- Window 13's block is the argument's matrix. -/
theorem blk13 (c : Dev nD) (t : Fin cfg0.N) (k : Fin 512) (n : Fin 1024) :
    iblk m c 13 t (ix2 k n : S512x1024.Idx) = m ((c : Thread nD τ).loc main_arg13) (ix2 k n : S512x1024.Idx) := by
  blk_point [iblk, V, idx t]

/-- Window 14's block is the argument's matrix. -/
theorem blk14 (c : Dev nD) (t : Fin cfg0.N) (k : Fin 1024) (n : Fin 1024) :
    iblk m c 14 t (ix2 k n : S1024x1024.Idx) = m ((c : Thread nD τ).loc main_arg14) (ix2 k n : S1024x1024.Idx) := by
  blk_point [iblk, V, idx t]

/-- The normalized residual of a block's row is the reference's at the token. -/
theorem block17 (c : Dev nD) (t : Fin cfg0.N) (r : Fin 256) (n : Fin 1024) :
    k0_pay4 (F := Ideal) (k0_pay2 (F := Ideal) (iblk m c 2 t) (iblk m c 0 t) (iblk m c 1 t) (iblk m c 10 t) (View.ld (iblk m c 5 t) r0_2) (iblk m c 11 t) (View.ld (iblk m c 5 t) r0_4) (iblk m c 3 t) (iblk m c 12 t)) (k0_pay3 (F := Ideal) (View.ld (iblk m c 5 t) r0_5) (iblk m c 4 t) (iblk m c 13 t))
        (iblk m c 14 t) (iblk m c 6 t) (iblk m c 7 t) (iblk m c 15 t) (iblk m c 16 t) (ix2 r n)
      = refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (tokOf t r) n := by
  rw [pay4]
  simp only [pay2]
  simp only [blk0, blk1, blk2, blk3, blk4, blk6, blk7 m c t r, blk10, blk11, blk12, blk13, blk14, blk15, blk16, gate2, gate4, gate5]
  rfl

/-- The place in a result of an entry of its block. -/
theorem emb17 (t : Fin cfg0.N) (r : Fin 256) (l : Fin 1024) :
    ((cfg0.win 17).blk t).view.emb (ix2 r l : S256x1024.Idx) = (ix2 (tokOf t r) l : S34816x1024.Idx) := by
  blk_ext [idx t]

/-- What a grid point stores is the reference's value at the entry's place. -/
theorem point17 (c : Dev nD) (t : Fin cfg0.N) (y : S256x1024.Idx) :
    k0_pay4 (F := Ideal) (k0_pay2 (F := Ideal) (iblk m c 2 t) (iblk m c 0 t) (iblk m c 1 t) (iblk m c 10 t) (View.ld (iblk m c 5 t) r0_2) (iblk m c 11 t) (View.ld (iblk m c 5 t) r0_4) (iblk m c 3 t) (iblk m c 12 t)) (k0_pay3 (F := Ideal) (View.ld (iblk m c 5 t) r0_5) (iblk m c 4 t) (iblk m c 13 t))
        (iblk m c 14 t) (iblk m c 6 t) (iblk m c 7 t) (iblk m c 15 t) (iblk m c 16 t) y
      = MixRefIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (((cfg0.win 17).blk t).view.emb y) := by
  idx_vars y
  rw [emb17]
  rw [ref58]
  exact block17 m c t y0 y1

/-- The result array is the reference's. -/
theorem final17 (c : Dev nD) : (dats m 0 c).arrAt 17 (cfgs 0).N
    = MixRefIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 17 _ (by decide +kernel) fun t _ y => ?_
  blk_simp
  rw [after0_17]; unfold_out out0_17; frame_out
  exact point17 m c t y

/-- The place in a result of an entry of its block. -/
theorem emb18 (t : Fin cfg0.N) (r : Fin 256) (l : Fin 1024) :
    ((cfg0.win 18).blk t).view.emb (ix2 r l : S256x1024.Idx) = (ix2 (tokOf t r) l : S34816x1024.Idx) := by
  blk_ext [idx t]

/-- What a grid point stores is the reference's value at the entry's place. -/
theorem point18 (c : Dev nD) (t : Fin cfg0.N) (y : S256x1024.Idx) :
    k0_pay1 (F := Ideal) (k0_pay4 (F := Ideal) (k0_pay2 (F := Ideal) (iblk m c 2 t) (iblk m c 0 t) (iblk m c 1 t) (iblk m c 10 t) (View.ld (iblk m c 5 t) r0_2) (iblk m c 11 t) (View.ld (iblk m c 5 t) r0_4) (iblk m c 3 t) (iblk m c 12 t)) (k0_pay3 (F := Ideal) (View.ld (iblk m c 5 t) r0_5) (iblk m c 4 t) (iblk m c 13 t))
        (iblk m c 14 t) (iblk m c 6 t) (iblk m c 7 t) (iblk m c 15 t) (iblk m c 16 t)) (iblk m c 9 t) (iblk m c 8 t) y
      = MixRefIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (((cfg0.win 18).blk t).view.emb y) := by
  idx_vars y
  rw [emb18]
  rw [ref76, ← block17]
  pointwise [k0_pay1]
  rw [← blk9 m c t y0, ← blk8 m c t y0]

/-- The result array is the reference's. -/
theorem final18 (c : Dev nD) : (dats m 0 c).arrAt 18 (cfgs 0).N
    = MixRefIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 18 _ (by decide +kernel) fun t _ y => ?_
  blk_simp
  rw [after0_18]; unfold_out out0_18; frame_out
  exact point18 m c t y

end Cert.MixValue

end
-- ==== Proof.MixPair.lean ====
module

public import proofs.«01_k».proof.Defs
public import proofs.«01_k».proof.Proof.MixValue
public import proofs.«01_k».proof.Proof.Gen.MixRefIdeal.Run

@[expose] public section

set_option maxRecDepth 65536

noncomputable section

namespace Cert.MixValue

open Idealize.ShloMosaic Idealize.ShloMosaic.TcCoe Idealize.SL.Sem
open Idealize.ShloMosaic.Pipeline (Dat)
open Cert.MixIdeal Cert.MixIdeal.Gen

/-- The two results of the mixing call are its reference's, on any arguments. -/
theorem algebraic : Cert.algebraic_MixIdeal_MixRefIdeal := by
  intro m g m' g' _ hag
  refine ⟨_, _, MixIdeal.Value.run_blocks m g, ?_⟩
  refine (θ_run _ _ _).mono (fun r h c => ?_) (MixRefIdeal.Value.run m' g')
  have h' := h c
  obtain ⟨a0, a1, a2, a3, a4, a5, a6, a7, a8, a9, a10, a11, a12, a13, a14, a15, a16⟩ := hag c
  rw [final17 m c, final18 m c, ← a0, ← a1, ← a2, ← a3, ← a4, ← a5, ← a6, ← a7, ← a8, ← a9, ← a10, ← a11, ← a12, ← a13, ← a14, ← a15, ← a16]
  exact h'

end Cert.MixValue

end
-- ==== Proof.ExpFrame.lean ====
module

public import proofs.«01_k».proof.Proof.Gen.ExpIdeal.Launch
public import proofs.«01_k».proof.Proof.Gen.ExpIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.ExpFrame

open Cert.ExpIdeal Cert.ExpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of expert numbers, one for each block of rows, as the body is handed it. -/
abbrev tabE : Memref sig .tc .smem S1152 .i32 := Memref.whole main_arg0
/-- The table of one cell, the count of active blocks. -/
abbrev tabN : Memref sig .tc .smem S1 .i32 := Memref.whole main_arg1

/-- The contents of a table on a core. -/
abbrev Held (c : Dev nD) {S : Shape} {e : EltTy} (M : Memref sig .tc .smem S e) : Type := Buf (Elt F) (M.view.loc (c : Thread nD τ))
/-- A table held for reading: the pipeline keeps the other half. -/
abbrev half (c : Dev nD) {S : Shape} {e : EltTy} (M : Memref sig .tc .smem S e) (f : Held (F := F) c M) : sProp 𝕄 :=
  M.view.loc (c : Thread nD τ) ↦{fullShare.right} f

/-- The one cell of the table that holds the count of active blocks. -/
abbrev cell0 : S1.Idx := fun a => ⟨0, by fin_cases a; decide⟩

/-- Of the body's two conditions exactly one holds. -/
theorem cond_iff (i : grid0.Coords) (n : BitVec 32) : k0_cond2 i n = 1#1 ↔ ¬ k0_cond1 i n = 1#1 := by
  unfold k0_cond1 k0_cond2
  dsimp only
  generalize Scalar.cmpi .slt (BitVec.ofNat 32 (i 0).val) n = b
  revert b; decide

/-- What the body leaves in the output's block: the two layer product of the active block, or zeros. -/
def left (i : grid0.Coords) (n : BitVec 32) (x0 : Vec F S256x1024 .f32) (x1 x2 : Vec F S1x1024x256 .bf16) (x3 : Vec F S1x256x1024 .bf16) :
    Vec F S256x1024 .f32 :=
  if k0_cond1 i n = 1#1 then k0_pay1 x0 x1 x2 x3 else k0_pay2

/-- The offsets of a whole block are zero. -/
theorem zero2 : (![0, 0] : Fin 2 → Nat) = fun _ => 0 := by funext a; fin_cases a <;> rfl
/-- The offsets of a whole block of three axes are zero. -/
theorem zero3 : (![0, 0, 0] : Fin 3 → Nat) = fun _ => 0 := by funext a; fin_cases a <;> rfl

/-- The rectangle of the whole output block. -/
abbrev rOut : Rect S256x1024 := Rect.unit (s := S256x1024) ![0, 0] S256x1024.size inb_S256x1024_S256x1024_0_0

/-- One store over the whole block covers it. -/
theorem cover_out (p : Vec F S256x1024 .f32) (y : S256x1024.Idx) :
    ∃ pc ∈ ([⟨rOut, p⟩] : List (View.Piece (Elt F) S256x1024 .f32)), y ∈ pc.1.set :=
  View.cover_of_tiled [⟨rOut, p⟩] S256x1024.size (by rfl) y

/-- A store over the whole block leaves the stored value. -/
theorem read_store {v : View sig .tc .vmem S256x1024 .f32} (f : v.ty.Contents (Elt F)) (p : Vec F S256x1024 .f32) :
    v.read (Elt F) (v.writes (Elt F) f [⟨rOut, p⟩]) = p :=
  (View.read_writes_eq_canon _ _ _ (cover_out p)).trans (View.canon_unit_zero (S := S256x1024) zero2 _ _)

/-- The body on any buffers: it leaves the inputs and tables as they were, and the output's block at `left`. -/
theorem body_run (c : Dev nD) (E : Set ℕ) (i : grid0.Coords) (a3 : Memref sig .tc .vmem S256x1024 .f32) (h3 : a3.IsWhole)
    (a4 : Memref sig .tc .vmem S1x1024x256 .bf16) (h4 : a4.IsWhole) (a5 : Memref sig .tc .vmem S1x1024x256 .bf16) (h5 : a5.IsWhole)
    (a6 : Memref sig .tc .vmem S1x256x1024 .bf16) (h6 : a6.IsWhole) (a7 : Memref sig .tc .vmem S256x1024 .f32) (h7 : a7.IsWhole)
    (x0 : Vec F S256x1024 .f32) (x1 x2 : Vec F S1x1024x256 .bf16) (x3 : Vec F S1x256x1024 .bf16)
    (t0 : Held (F := F) c tabE) (t1 : Held (F := F) c tabN) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ (∃ d, owns (c : Thread nD τ) a7 fullShare d) ∗ half c tabE t0 ∗ half c tabN t1
        ∗ (iprop(owns (c : Thread nD τ) a3 fullShare x0 ∗ owns (c : Thread nD τ) a4 fullShare x1 ∗ owns (c : Thread nD τ) a5 fullShare x2
          ∗ owns (c : Thread nD τ) a6 fullShare x3 ∗ owns (c : Thread nD τ) a7 fullShare (left i (t1 cell0) x0 x1 x2 x3) ∗ half c tabE t0 ∗ half c tabN t1) -∗ K ⟨⟩))
      ⊢ wp frame (wpE (defs₀ (F := F)) Variants.none c none) E
          (cc0_moe_experts i tabE (Memref.isWhole_whole _) tabN (Memref.isWhole_whole _) a3 h3 a4 h4 a5 h5 a6 h6 a7 h7) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  subst hf0 hf1 hf2 hf3
  sl_exec
  have hw : body_run.sl.r c t1 = t1 cell0 := by
    unfold body_run.sl.r
    exact congrArg t1 (funext fun a => by fin_cases a; rfl)
  rw [hw]
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold left
    by_cases h1 : k0_cond1 i (t1 cell0) = 1#1
    · rw [dif_neg (fun h => (cond_iff _ _).mp h h1), dif_pos h1, if_pos h1, read_store]
      exact congr (congr (congr (congrArg k0_pay1 (View.ld_unit_zero (S := S256x1024) zero2 _ _))
        (View.ld_unit_zero (S := S1x1024x256) zero3 _ _)) (View.ld_unit_zero (S := S1x1024x256) zero3 _ _))
        (View.ld_unit_zero (S := S1x256x1024) zero3 _ _)
    · rw [dif_pos ((cond_iff _ _).mpr h1), if_neg h1, read_store]
  isplitl [HT0]; · iexact HT0
  iexact HT1

variable (m : (ℓ : Loc nD τ sig) → Buf (Elt F) ℓ) (ρ : Dev nD → PrngReg)

/-- A core's buffers when the grid starts: the three weight arrays converted, everything else as launched. -/
abbrev V (c : Dev nD) (b : Ref sig .tc) : Buf (Elt F) ((c : Thread nD τ).loc b) := StableHlo.after hostOps0 (fun b => m (c, b)) b

/-- A buffer that no conversion writes is as launched. -/
theorem V_kept (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

/-- The tables when the grid starts. -/
def tbl : pre0.Contents (Elt F) := fun j => V m (0 : Dev nD) (pre0.ref j)

/-- There is one device, so its tables are every device's. -/
theorem V_tbl (c : Dev nD) (j : Fin 2) : V m c (pre0.ref j) = tbl m j := by
  obtain rfl : c = 0 := Subsingleton.elim _ _; rfl

/-- Every block that a table names lies inside its array. -/
abbrev Ok : Prop := ok0 (F := F) (tbl m)
/-- The tables, known to name blocks that exist. -/
abbrev adm (hO : Ok m) : (pcfg0 (F := F)).Adm := ⟨tbl m, hO⟩
/-- The pipeline at those tables. -/
abbrev cfgM (hO : Ok m) : Pipeline.Cfg sig Λ₀ := cfg0 (adm m hO)

/-- What the region hands the body of the tables, one by one. -/
theorem tables_eq (c : Dev nD) : (Pipeline.ΦT pre0 (tbl m) c : sProp 𝕄) = iprop(half c tabE (tbl m 0) ∗ half c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-- A window's block at a point, read off its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The proof data: each input's buffer holds its block, and the output's what the body leaves of them. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => left (grid0.coords t) (tbl m 1 cell0) (iblk m hO c 0 t) (iblk m hO c 1 t) (iblk m hO c 2 t) (iblk m hO c 3 t)
  Φ _ := iprop(Pipeline.ΦA spec0 c ∗ Pipeline.ΦT pre0 (tbl m) c)
  q _ := fullShare
  owed _ := 0

/-- The arrays start as the grid finds them. -/
theorem A_eq (hO : Ok m) (c : Dev nD) (w : Fin (cfgM m hO).W) : (dats m hO 0 c).A w = V m c (Pipeline.arrRef spec0 w) := by
  dsimp only [dats]

/-- What the body leaves in the output's buffer. -/
theorem after_out (hO : Ok m) (c : Dev nD) (t : Fin (cfgM m hO).N) : (dats m hO 0 c).after 4 t
    = left (grid0.coords t) (tbl m 1 cell0) (iblk m hO c 0 t) (iblk m hO c 1 t) (iblk m hO c 2 t) (iblk m hO c 3 t) := by
  dsimp only [dats]; try rfl

/-- An input whose body leaves it in place holds its block at every point. -/
theorem found (hO : Ok m) (c : Dev nD) (w : Fin (cfgM m hO).W) (hin : ((cfgM m hO).win w).isOut = false)
    (hl : ∀ i, (cfgM m hO).idle w i = false)
    (hclip : ∀ t t' : Fin (cfgM m hO).N, ((cfgM m hO).win w).index t = ((cfgM m hO).win w).index t' →
      ((cfgM m hO).win w).clip ((cfgM m hO).grid.coords t) = ((cfgM m hO).win w).clip ((cfgM m hO).grid.coords t'))
    (hkeep : ∀ t, ((cfgM m hO).win w).cut ((cfgM m hO).grid.coords t) ((dats m hO 0 c).after w t) = (dats m hO 0 c).blockOf w t)
    (t : Fin (cfgM m hO).N) (d) : (dats m hO 0 c).before w t d = (dats m hO 0 c).fetched w t d :=
  (dats m hO 0 c).before_in_eq_fetched w hin hl hclip hkeep t d

/-- Input 0's buffer holds its block. -/
theorem before0 (hO : Ok m) (c : Dev nD) (t : Fin (cfgM m hO).N) (d) : (dats m hO 0 c).before 0 t d = iblk m hO c 0 t :=
  (found m hO c 0 rfl (fun _ => rfl) (fun _ _ _ => rfl) (fun _ => rfl) t d).trans rfl
/-- Input 1's buffer holds its block. -/
theorem before1 (hO : Ok m) (c : Dev nD) (t : Fin (cfgM m hO).N) (d) : (dats m hO 0 c).before 1 t d = iblk m hO c 1 t :=
  (found m hO c 1 rfl (fun _ => rfl) (fun _ _ _ => rfl) (fun _ => rfl) t d).trans rfl
/-- Input 2's buffer holds its block. -/
theorem before2 (hO : Ok m) (c : Dev nD) (t : Fin (cfgM m hO).N) (d) : (dats m hO 0 c).before 2 t d = iblk m hO c 2 t :=
  (found m hO c 2 rfl (fun _ => rfl) (fun _ _ _ => rfl) (fun _ => rfl) t d).trans rfl
/-- Input 3's buffer holds its block. -/
theorem before3 (hO : Ok m) (c : Dev nD) (t : Fin (cfgM m hO).N) (d) : (dats m hO 0 c).before 3 t d = iblk m hO c 3 t :=
  (found m hO c 3 rfl (fun _ => rfl) (fun _ _ _ => rfl) (fun _ => rfl) t d).trans rfl

/-- The output is stored at every point: one of the two conditions always holds. -/
theorem never_idle (hO : Ok m) (i : grid0.Coords) : (cfgM m hO).idle 4 i = false := by
  show (!(k0_cond1 i _ == 1#1) && !(k0_cond2 i _ == 1#1)) = false
  by_cases h : k0_cond1 i ((tbl m).atD 1 ![0]) = 1#1
  · rw [h]; rfl
  · rw [(cond_iff i _).mpr h]; exact Bool.and_false _

/-- A window's buffer at a point. -/
abbrev stg (hO : Ok m) (t : Fin (cfgM m hO).N) (w : Fin 5) := ((cfgM m hO).win w).stage ((cfgM m hO).slots t w)

/-- The body at a point, as the pipeline calls it. -/
abbrev bodyAt (hO : Ok m) (t : Fin (cfgM m hO).N) : Prog (TpuEff nD τ sig (Elt F) Λ₀ .tc) PUnit :=
  cc0_moe_experts (grid0.coords t) tabE (Memref.isWhole_whole _) tabN (Memref.isWhole_whole _)
    (stg m hO t 0) (hstage0_0 (((cfgM m hO).slots t 0).cast nbuf0_0)) (stg m hO t 1) (hstage0_1 (((cfgM m hO).slots t 1).cast nbuf0_1))
    (stg m hO t 2) (hstage0_2 (((cfgM m hO).slots t 2).cast nbuf0_2)) (stg m hO t 3) (hstage0_3 (((cfgM m hO).slots t 3).cast nbuf0_3))
    (stg m hO t 4) (hstage0_4 (((cfgM m hO).slots t 4).cast nbuf0_4))

/-- What the pipeline hands the body. -/
def handed (hO : Ok m) (c : Dev nD) (t : Fin (cfgM m hO).N) : sProp 𝕄 :=
  iprop((dats m hO 0 c).Φ t.castSucc ∗ (dats m hO 0 c).owesAt () t.castSucc
    ∗ (∃ d, owns (c : Thread nD τ) (stg m hO t 0) fullShare ((dats m hO 0 c).before 0 t d))
    ∗ (∃ d, owns (c : Thread nD τ) (stg m hO t 1) fullShare ((dats m hO 0 c).before 1 t d))
    ∗ (∃ d, owns (c : Thread nD τ) (stg m hO t 2) fullShare ((dats m hO 0 c).before 2 t d))
    ∗ (∃ d, owns (c : Thread nD τ) (stg m hO t 3) fullShare ((dats m hO 0 c).before 3 t d))
    ∗ (∃ d, owns (c : Thread nD τ) (stg m hO t 4) fullShare ((dats m hO 0 c).before 4 t d)))

/-- What the body gives back. -/
def given (hO : Ok m) (c : Dev nD) (t : Fin (cfgM m hO).N) : sProp 𝕄 :=
  iprop((dats m hO 0 c).Φ t.succ ∗ (dats m hO 0 c).owesAt () t.succ
    ∗ owns (c : Thread nD τ) (stg m hO t 0) fullShare ((dats m hO 0 c).after 0 t)
    ∗ owns (c : Thread nD τ) (stg m hO t 1) fullShare ((dats m hO 0 c).after 1 t)
    ∗ owns (c : Thread nD τ) (stg m hO t 2) fullShare ((dats m hO 0 c).after 2 t)
    ∗ owns (c : Thread nD τ) (stg m hO t 3) fullShare ((dats m hO 0 c).after 3 t)
    ∗ owns (c : Thread nD τ) (stg m hO t 4) fullShare ((dats m hO 0 c).after 4 t))

/-- The body at a point takes what it is handed to what it gives back. -/
theorem body_point (hO : Ok m) (c : Dev nD) (t : Fin (cfgM m hO).N) :
    handed m hO c t ⊢ wp frame (wpE (defs₀ (F := F)) Variants.none c none) Set.univ (bodyAt m hO t) (fun _ => given m hO c t) := by
  unfold handed given
  simp only [before0, before1, before2, before3]
  rw [show (dats m hO 0 c).Φ t.succ = iprop(Pipeline.ΦA spec0 c ∗ Pipeline.ΦT pre0 (tbl m) c) from rfl,
    show (dats m hO 0 c).owesAt () t.succ = (dats m hO 0 c).owesAt () t.castSucc from rfl,
    show (dats m hO 0 c).Φ t.castSucc = iprop(Pipeline.ΦA spec0 c ∗ Pipeline.ΦT pre0 (tbl m) c) from rfl,
    show (dats m hO 0 c).after 0 t = iblk m hO c 0 t from rfl, show (dats m hO 0 c).after 1 t = iblk m hO c 1 t from rfl,
    show (dats m hO 0 c).after 2 t = iblk m hO c 2 t from rfl, show (dats m hO 0 c).after 3 t = iblk m hO c 3 t from rfl,
    after_out, tables_eq]
  iintro ⟨⟨HΦ, ⟨HT0, HT1⟩⟩, Ho, ⟨%d0, H0⟩, ⟨%d1, H1⟩, ⟨%d2, H2⟩, ⟨%d3, H3⟩, ⟨%d4, H4⟩⟩
  iapply (body_run c Set.univ (grid0.coords t) _ _ _ _ _ _ _ _ _ _ (iblk m hO c 0 t) (iblk m hO c 1 t) (iblk m hO c 2 t) (iblk m hO c 3 t) (tbl m 0) (tbl m 1) _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]; · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- The body table's row at a point is the body there. -/
theorem row_eq (hO : Ok m) (t : Fin (cfgM m hO).N) :
    defs₀ (F := F) .tc (cfgM m hO).body ((cfgM m hO).bodyArgs t ((cfgM m hO).slots t)) = bodyAt m hO t := by
  unfold defs₀; rw [Defs.onTc_tc]

set_option maxHeartbeats 1600000 in
/-- The pipeline's obligation of the body, at every point. -/
theorem body_obligation (hO : Ok m) (c : Dev nD) : BodyObligation (dats (F := F) m hO 0 c) (defs₀ (F := F)) Variants.none () Set.univ := fun t => by
  rw [bigSep_W0, bigSep_W0, row_eq m hO]
  have hi : idle0 (tbl m) 4 ((pcfg0.gridAt (tbl m)).coords t) = false := never_idle m hO _
  simp only [hi]
  exact triple_restated (body_point m hO c t) rfl .rfl fun _ => .rfl

-- the launch theorem's implicit arguments are found by unfolding plain definitions
set_option backward.isDefEq.respectTransparency.types false in
/-- The launch: every run ends with the arrays at what the pipeline writes, and every counter at zero. -/
theorem launch (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m)
    (hmain := Pipeline.hmainP_prefix pcfgs 0 defs₀ Variants.none m main hostOps0 hostOps0_sub
      (by simp only [List.Forall]; repeat' constructor) main_chain)
    (hA := A_eq m hO) (hpf := V_tbl m) (hΦ := fun _ _ => rfl)

/-- An argument that no conversion writes is as launched when the grid starts. -/
theorem kept (b : Ref sig .tc) (hb : b ≠ main_v0 ∧ b ≠ main_v1 ∧ b ≠ main_v2) (c : Dev nD) : V m c b = m ((c : Thread nD τ).loc b) :=
  V_kept m c b hb.1 hb.2.1 hb.2.2

/-- Every argument ends as it was. -/
theorem args_kept (hO : Ok m) {r} (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (by decide : main_arg0 ∈ Pipeline.restRefs sig spec0)).trans (kept m main_arg0 (by decide) c),
    ((h c).2 main_arg1 (by decide : main_arg1 ∈ Pipeline.restRefs sig spec0)).trans (kept m main_arg1 (by decide) c),
    ((h c).1 0).trans (((dats m hO 0 c).arrAt_in 0 rfl _).trans ((A_eq m hO c 0).trans (kept m main_arg2 (by decide) c))),
    ((h c).2 main_arg3 (by decide : main_arg3 ∈ Pipeline.restRefs sig spec0)).trans (kept m main_arg3 (by decide) c),
    ((h c).2 main_arg4 (by decide : main_arg4 ∈ Pipeline.restRefs sig spec0)).trans (kept m main_arg4 (by decide) c),
    ((h c).2 main_arg5 (by decide : main_arg5 ∈ Pipeline.restRefs sig spec0)).trans (kept m main_arg5 (by decide) c)⟩

/-- The frame: every run ends, with the arguments as they were and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_kept m hO h.1, h.2⟩) (launch m ρ hO)

end Cert.ExpFrame

end
-- ==== Proof.ExpRange.lean ====
module

public import proofs.«01_k».proof.Proof.ExpFrame
public import proofs.«01_k».proof.Proof.Gen.Pre_exp_ranges
public import Idealize.ShloMosaic.Lib.ReduceAll

@[expose] public section

set_option maxRecDepth 16384

noncomputable section

namespace Cert.ExpFrame

open Cert.ExpIdeal Cert.ExpIdeal.Gen
open Idealize.ShloMosaic Idealize.ShloMosaic.TcCoe

variable {F : FTy → Type} [FloatOps F]

/-- What the tables hold: expert numbers below 64, and a count of active blocks from 1 up. -/
def InRange (e : S1152.Idx → BitVec 32) (n : S1.Idx → BitVec 32) : Prop :=
  (∀ k, 0 ≤ (e k).toInt ∧ (e k).toInt < 64) ∧ 1 ≤ (n cell0).toInt

/-- A signed word from 0 up is its own count. -/
theorem toNat_of_nonneg {w : BitVec 32} (h : 0 ≤ w.toInt) : (w.toNat : Int) = w.toInt := by
  rw [BitVec.toInt_eq_toNat_cond] at h ⊢
  have := w.isLt
  by_cases hc : 2 * w.toNat < 2 ^ 32
  · rw [if_pos hc]
  · rw [if_neg hc] at h; omega

/-- The cell of the count, read through the reshape. -/
theorem count_cell (n : S1.Idx → BitVec 32) (h : S1.ShapeCasts Cert.Pre_exp_ranges.S_) (j : Cert.Pre_exp_ranges.S_.Idx) :
    shapeCast Cert.Pre_exp_ranges.S_ n h j = n cell0 := by
  unfold shapeCast
  exact congrArg n (funext fun a => by fin_cases a; exact Subsingleton.elim (α := Fin 1) _ _)

/-- The precondition's value says what the tables hold. -/
theorem in_range (a0 : IVec S1152 32) (a1 : IVec S1 32) (a2 : FVec F S294912x1024 .f32) (a3 a4 : FVec F S64x1024x256 .f32)
    (a5 : FVec F S64x256x1024 .f32) (h : Cert.Pre_exp_ranges.fn (F := F) a0 a1 a2 a3 a4 a5 = fun _ => 1#1) : InRange a0 a1 := by
  have j : Cert.Pre_exp_ranges.S_.Idx := fun a => a.elim0
  haveI : Subsingleton Cert.Pre_exp_ranges.S_.Idx := ⟨fun a b => funext fun x => x.elim0⟩
  have h := congrFun h j
  unfold Cert.Pre_exp_ranges.fn at h
  dsimp only at h
  obtain ⟨h1, h2⟩ := IntOp.andi_eq_one.mp h
  refine ⟨fun k => ?_, ?_⟩
  · obtain ⟨hk1, hk2⟩ := IntOp.andi_eq_one.mp (Host.reduce_andi_all _ _ _ _ j h1 k)
    exact ⟨IntOp.cmpi_sge.mp hk1, IntOp.cmpi_slt.mp hk2⟩
  · have := IntOp.cmpi_sge.mp h2
    rw [count_cell] at this; exact this

/-- The cell of the expert table that a grid point reads. -/
abbrev cellE (i : grid0.Coords) : S1152.Idx := fun a => ⟨(i 0).val, by fin_cases a; exact (i 0).isLt⟩

/-- A grid coordinate is below the number of blocks. -/
theorem coord_lt (i : grid0.Coords) : (i 0).val < 1152 := (i 0).isLt

/-- The word of a grid coordinate is the coordinate. -/
theorem coord_toNat (i : grid0.Coords) : (BitVec.ofNat 32 (i 0).val).toNat = (i 0).val :=
  WordCmp.toNat_ofNat_of_lt (lt_trans (coord_lt i) (by decide))

/-- Reading the expert table at a grid point's offset. -/
theorem at_expert (pf : pre0.Contents (Elt F)) (i : grid0.Coords) :
    pf.at 0 (Rect.unit (s := S1152) ![(Scalar.indexCast (BitVec.ofNat 32 (i 0).val)).toNat] S1.size (k0_off1_inb i)) numel1_S1 = pf 0 (cellE i) := by
  refine congrArg (pf 0) (funext fun a => match a with | ⟨0, _⟩ => Fin.ext ((Rect.emb_apply _ _ _).trans ?_))
  have hz : ∀ x : Fin 1, 1 * x.val = 0 := by decide
  have e : (BitVec.ofNat 32 (i 0).val).toNat + 0 = (i 0).val := coord_toNat i
  exact (congrArg ((BitVec.ofNat 32 (i 0).val).toNat + ·) (hz _)).trans e

/-- Reading the count. -/
theorem at_count (pf : pre0.Contents (Elt F)) :
    pf.at 1 (Rect.unit (s := S1) ![0] S1.size inb_S1_S1_0) numel1_S1 = pf 1 cell0 :=
  congrArg (pf 1) (funext fun a => by fin_cases a; exact Subsingleton.elim (α := Fin 1) _ _)

/-- The row of blocks an input point reads: the point's own, and past the last active block that one. -/
theorem row_val {e n} (h : InRange e n) (i : grid0.Coords) :
    ((Scalar.minsi (BitVec.ofNat 32 (i 0).val) (Scalar.subi (n cell0) 1#32)).toNat : Int) = min ((i 0).val : Int) ((n cell0).toInt - 1) := by
  obtain ⟨-, h1⟩ := h
  have h2 : (n cell0).toInt < 2147483648 := BitVec.toInt_lt
  have hi := coord_lt i
  have hx : (BitVec.ofNat 32 (i 0).val).toInt = (i 0).val := WordCmp.toInt_ofNat_of_lt (lt_trans hi (by decide))
  have hy : (Scalar.subi (n cell0) 1#32).toInt = (n cell0).toInt - 1 := by
    show (n cell0 - 1#32).toInt = _
    rw [BitVec.toInt_sub]
    have : (1#32 : BitVec 32).toInt = 1 := rfl
    rw [this]
    exact Int.bmod_eq_of_le (by omega) (by omega)
  have hm : (Scalar.minsi (BitVec.ofNat 32 (i 0).val) (Scalar.subi (n cell0) 1#32)).toInt = min ((i 0).val : Int) ((n cell0).toInt - 1) := by
    show (IntOp.minsi _ _).toInt = _
    unfold IntOp.minsi
    rw [BitVec.slt_eq_decide, hx, hy]
    split <;> rename_i hc <;> simp only [decide_eq_true_eq] at hc
    · rw [hx]; omega
    · rw [hy]; omega
  rw [toNat_of_nonneg (by rw [hm]; omega), hm]

/-- Tables in range name blocks that exist. -/
theorem ok_of_range (pf : pre0.Contents (Elt F)) (h : InRange (pf 0) (pf 1)) : ok0 pf := by
  have he (i : grid0.Coords) : (pf 0 (cellE i)).toNat < 64 := by
    have := h.1 (cellE i); have := toNat_of_nonneg this.1; omega
  have h0 (i : grid0.Coords) : cc0_transform_0 inb_S1_S1_0 numel1_S1 pf i 0 < 1152 := by
    show (Scalar.minsi (BitVec.ofNat 32 (i 0).val) (Scalar.subi (pf.at 1 (Rect.unit (s := S1) ![0] S1.size inb_S1_S1_0) numel1_S1) 1#32)).toNat < 1152
    rw [at_count]
    have := row_val h i
    have hi := coord_lt i
    have := h.2
    omega
  have h1 (i : grid0.Coords) : cc0_transform_1 k0_off1_inb numel1_S1 pf i 0 < 64 := lt_of_eq_of_lt (congrArg BitVec.toNat (at_expert pf i)) (he i)
  have h2 (i : grid0.Coords) : cc0_transform_2 k0_off1_inb numel1_S1 pf i 0 < 64 := lt_of_eq_of_lt (congrArg BitVec.toNat (at_expert pf i)) (he i)
  have h3 (i : grid0.Coords) : cc0_transform_3 k0_off1_inb numel1_S1 pf i 0 < 64 := lt_of_eq_of_lt (congrArg BitVec.toNat (at_expert pf i)) (he i)
  refine ⟨fun i => ⟨fun a => ?_, .inl rfl⟩, fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · match a with
    | ⟨0, _⟩ => have := h0 i; show (cc0_transform_0 inb_S1_S1_0 numel1_S1 pf i 0 + 1) * 256 ≤ 294912; omega
    | ⟨1, _⟩ => exact of_decide_eq_true rfl
  · match a with
    | ⟨0, _⟩ => have := h1 i; show (cc0_transform_1 k0_off1_inb numel1_S1 pf i 0 + 1) * 1 ≤ 64; omega
    | ⟨1, _⟩ => exact of_decide_eq_true rfl
    | ⟨2, _⟩ => exact of_decide_eq_true rfl
  · match a with
    | ⟨0, _⟩ => have := h2 i; show (cc0_transform_2 k0_off1_inb numel1_S1 pf i 0 + 1) * 1 ≤ 64; omega
    | ⟨1, _⟩ => exact of_decide_eq_true rfl
    | ⟨2, _⟩ => exact of_decide_eq_true rfl
  · match a with
    | ⟨0, _⟩ => have := h3 i; show (cc0_transform_3 k0_off1_inb numel1_S1 pf i 0 + 1) * 1 ≤ 64; omega
    | ⟨1, _⟩ => exact of_decide_eq_true rfl
    | ⟨2, _⟩ => exact of_decide_eq_true rfl

variable (m : (ℓ : Loc nD τ sig) → Buf (Elt F) ℓ)

/-- The tables are the first two arguments. -/
theorem tbl_eq : tbl m 0 = m (((0 : Dev nD).tc : Thread nD τ).loc main_arg0) ∧ tbl m 1 = m (((0 : Dev nD).tc : Thread nD τ).loc main_arg1) :=
  ⟨kept m main_arg0 (by decide) 0, kept m main_arg1 (by decide) 0⟩

/-- Under the precondition the tables are in range. -/
theorem tbl_range (h : ∀ c : Dev nD, Cert.Pre_exp_ranges.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : InRange (tbl m 0) (tbl m 1) := by
  have := in_range _ _ _ _ _ _ (h 0)
  rw [(tbl_eq m).1, (tbl_eq m).2]; exact this

/-- Under the precondition every block that a table names exists. -/
theorem ok_of_pre (h : ∀ c : Dev nD, Cert.Pre_exp_ranges.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) : Ok m := ok_of_range (tbl m) (tbl_range m h)

end Cert.ExpFrame

end
-- ==== Proof.ExpValue.lean ====
module

public import proofs.«01_k».proof.Proof.ExpRange
public import Idealize.ShloMosaic.Lib.Pipeline.Kit
public import Idealize.ShloMosaic.Lib.Pipeline.ValueKit
public import Idealize.ShloMosaic.Lib.Pointwise

@[expose] public section

set_option maxRecDepth 65536

noncomputable section

namespace Cert.ExpValue

open Cert.ExpIdeal Cert.ExpIdeal.Gen Cert.ExpFrame
open Idealize.ShloMosaic Idealize.ShloMosaic.TcCoe Idealize.SL.Sem
open Idealize.ShloMosaic.Pipeline (Dat)

/-- The gated product of one row with one expert's two first weight matrices, at one of the hidden places. -/
def gated (x : Fin 1024 → EReal) (a b : Fin 1024 → Fin 256 → EReal) (j : Fin 256) : EReal :=
  (∑ q : Fin 1024, x q * a q j) * Ideal.logistic (∑ q : Fin 1024, x q * a q j) * ∑ q : Fin 1024, x q * b q j

/-- One row through one expert: the gated product times a column of the last weight matrix. -/
def ffn (x : Fin 1024 → EReal) (a b : Fin 1024 → Fin 256 → EReal) (d : Fin 256 → Fin 1024 → EReal) (l : Fin 1024) : EReal :=
  ∑ j : Fin 256, gated x a b j * d j l

/-- The number of the expert that a block of rows is sent to. -/
def expertOf (e : S1152.Idx → BitVec 32) (k : Fin 1152) : Fin 64 := ⟨min (e (ix1 k)).toInt.toNat 63, by omega⟩

/-- The result, entry by entry: the row through its block's expert, and zero past the last active block. -/
def val (e : S1152.Idx → BitVec 32) (n : S1.Idx → BitVec 32) (xs : FVec Ideal S294912x1024 .f32) (w1 w3 : FVec Ideal S64x1024x256 .f32)
    (w2 : FVec Ideal S64x256x1024 .f32) (k : Fin 1152) (I : Fin 294912) (l : Fin 1024) : EReal :=
  if (k.val : Int) < (n cell0).toInt then
    ffn (fun q => xs (ix2 I q)) (fun q j => w1 (ix3 (expertOf e k) q j)) (fun q j => w3 (ix3 (expertOf e k) q j))
      (fun j l => w2 (ix3 (expertOf e k) j l)) l
  else 0

/-- The body's arithmetic on its blocks, entry by entry. -/
theorem pay1_at (x0 : Vec Ideal S256x1024 .f32) (x1 x2 : Vec Ideal S1x1024x256 .bf16) (x3 : Vec Ideal S1x256x1024 .bf16)
    (r : Fin 256) (l : Fin 1024) :
    k0_pay1 (F := Ideal) x0 x1 x2 x3 (ix2 r l)
      = ffn (fun q => x0 (ix2 r q)) (fun q j => x1 (ix3 0 q j)) (fun q j => x2 (ix3 0 q j)) (fun j l => x3 (ix3 0 j l)) l := by
  pointwise [k0_pay1, ffn, gated]

/-- The zero block. -/
theorem pay2_at (r : Fin 256) (l : Fin 1024) : k0_pay2 (F := Ideal) (ix2 r l) = 0 := by
  pointwise [k0_pay2]

variable (m : (ℓ : Loc nD τ sig) → Buf (Elt Ideal) ℓ)

/-- The converted weights are the weights. -/
theorem weights (c : Dev nD) : V m c main_v0 = m ((c : Thread nD τ).loc main_arg3) ∧ V m c main_v1 = m ((c : Thread nD τ).loc main_arg4)
    ∧ V m c main_v2 = m ((c : Thread nD τ).loc main_arg5) := by
  refine ⟨?_, ?_, ?_⟩
  · rfl
  · rfl
  · rfl

variable (hO : Ok m)

/-- A block of rows, read at its place in the array. -/
theorem rows_at (c : Dev nD) (t : Fin (cfgM m hO).N) (r : Fin 256) (q : Fin 1024) (R : Fin 294912)
    (h : cc0_transform_0 inb_S1_S1_0 numel1_S1 (tbl m) (grid0.coords t) 0 * 256 + r.val = R.val) :
    iblk m hO c 0 t (ix2 r q : S256x1024.Idx) = m ((c : Thread nD τ).loc main_arg2) (ix2 R q : S294912x1024.Idx) := by
  refine (congrFun (kept m main_arg2 (by decide) c) _).trans (congrArg _ (funext fun a => ?_))
  match a with
  | ⟨0, _⟩ => exact Fin.ext ((congrArg (_ + ·) (Nat.one_mul _)).trans h)
  | ⟨1, _⟩ => exact Fin.ext ((congrArg (_ + ·) (Nat.one_mul _)).trans (Nat.zero_add _))

/-- A matrix of the expert that a table names, for the first two weight arrays, read at its place in the array. -/
theorem first_at (c : Dev nD) (t : Fin (cfgM m hO).N) (q : Fin 1024) (j : Fin 256) (E : Fin 64)
    (h : (tbl m 0 (cellE (grid0.coords t))).toNat = E.val) :
    iblk m hO c 1 t (ix3 0 q j : S1x1024x256.Idx) = m ((c : Thread nD τ).loc main_arg3) (ix3 E q j : S64x1024x256.Idx) := by
  refine (congrFun (weights m c).1 _).trans (congrArg _ (funext fun a => ?_))
  match a with
  | ⟨0, _⟩ => exact Fin.ext ((congrArg (fun w : BitVec 32 => w.toNat * 1 + 1 * 0) (at_expert (tbl m) (grid0.coords t))).trans (by rw [Nat.mul_one]; exact h))
  | ⟨1, _⟩ => exact Fin.ext ((congrArg (_ + ·) (Nat.one_mul _)).trans (Nat.zero_add _))
  | ⟨2, _⟩ => exact Fin.ext ((congrArg (_ + ·) (Nat.one_mul _)).trans (Nat.zero_add _))

/-- The second weight array's block, likewise. -/
theorem second_at (c : Dev nD) (t : Fin (cfgM m hO).N) (q : Fin 1024) (j : Fin 256) (E : Fin 64)
    (h : (tbl m 0 (cellE (grid0.coords t))).toNat = E.val) :
    iblk m hO c 2 t (ix3 0 q j : S1x1024x256.Idx) = m ((c : Thread nD τ).loc main_arg4) (ix3 E q j : S64x1024x256.Idx) := by
  refine (congrFun (weights m c).2.1 _).trans (congrArg _ (funext fun a => ?_))
  match a with
  | ⟨0, _⟩ => exact Fin.ext ((congrArg (fun w : BitVec 32 => w.toNat * 1 + 1 * 0) (at_expert (tbl m) (grid0.coords t))).trans (by rw [Nat.mul_one]; exact h))
  | ⟨1, _⟩ => exact Fin.ext ((congrArg (_ + ·) (Nat.one_mul _)).trans (Nat.zero_add _))
  | ⟨2, _⟩ => exact Fin.ext ((congrArg (_ + ·) (Nat.one_mul _)).trans (Nat.zero_add _))

/-- The last weight array's block, likewise. -/
theorem last_at (c : Dev nD) (t : Fin (cfgM m hO).N) (j : Fin 256) (l : Fin 1024) (E : Fin 64)
    (h : (tbl m 0 (cellE (grid0.coords t))).toNat = E.val) :
    iblk m hO c 3 t (ix3 0 j l : S1x256x1024.Idx) = m ((c : Thread nD τ).loc main_arg5) (ix3 E j l : S64x256x1024.Idx) := by
  refine (congrFun (weights m c).2.2 _).trans (congrArg _ (funext fun a => ?_))
  match a with
  | ⟨0, _⟩ => exact Fin.ext ((congrArg (fun w : BitVec 32 => w.toNat * 1 + 1 * 0) (at_expert (tbl m) (grid0.coords t))).trans (by rw [Nat.mul_one]; exact h))
  | ⟨1, _⟩ => exact Fin.ext ((congrArg (_ + ·) (Nat.one_mul _)).trans (Nat.zero_add _))
  | ⟨2, _⟩ => exact Fin.ext ((congrArg (_ + ·) (Nat.one_mul _)).trans (Nat.zero_add _))

/-- The grid has one coordinate, the point's number. -/
theorem coord_val (t : Fin grid0.N) : (grid0.coords t 0).val = t.val := (by decide +kernel : ∀ t : Fin grid0.N, (grid0.coords t 0).val = t.val) t

/-- The result array. -/
def result (c : Dev nD) : FVec Ideal S294912x1024 .f32 := fun i =>
  val (tbl m 0) (tbl m 1) (m ((c : Thread nD τ).loc main_arg2)) (m ((c : Thread nD τ).loc main_arg3)) (m ((c : Thread nD τ).loc main_arg4))
    (m ((c : Thread nD τ).loc main_arg5)) ⟨(i 0).val / 256, by have : (i 0).val < 294912 := (i 0).isLt; omega⟩ (i 0) (i 1)

/-- The first condition holds at the active blocks. -/
theorem cond_val (i : grid0.Coords) (n : BitVec 32) : k0_cond1 i n = 1#1 ↔ ((i 0).val : Int) < n.toInt := by
  have e : k0_cond1 i n = IntOp.cmpi .slt (BitVec.ofNat 32 (i 0).val) n := by
    unfold k0_cond1; dsimp only
    generalize hb : Scalar.cmpi .slt (BitVec.ofNat 32 (i 0).val) n = b
    rw [show IntOp.cmpi .slt (BitVec.ofNat 32 (i 0).val) n = b from hb]
    clear hb; revert b; decide
  rw [e, IntOp.cmpi_slt, WordCmp.toInt_ofNat_of_lt (lt_trans (coord_lt i) (by decide))]

/-- What the body leaves at a point is the block of the result there. -/
theorem left_eq (hR : InRange (tbl m 0) (tbl m 1)) (c : Dev nD) (t : Fin (cfgM m hO).N) (r : Fin 256) (l : Fin 1024) (R : Fin 294912)
    (h : t.val * 256 + r.val = R.val) :
    left (grid0.coords t) (tbl m 1 cell0) (iblk m hO c 0 t) (iblk m hO c 1 t) (iblk m hO c 2 t) (iblk m hO c 3 t) (ix2 r l : S256x1024.Idx)
      = result m c (ix2 R l : S294912x1024.Idx) := by
  have hk : R.val / 256 = t.val := by have := r.isLt; omega
  have hc : (grid0.coords t 0).val = t.val := coord_val t
  have hE := hR.1 (cellE (grid0.coords t))
  have hEn := toNat_of_nonneg hE.1
  have ht : t.val < 1152 := lt_of_eq_of_lt hc.symm (coord_lt _)
  unfold left result val
  by_cases hn : ((grid0.coords t 0).val : Int) < (tbl m 1 cell0).toInt
  · rw [if_pos ((cond_val _ _).mpr hn), if_pos (by show ((R.val / 256 : ℕ) : Int) < _; rw [hk, ← hc]; exact hn)]
    have hcell : (cellE (grid0.coords t)) = ix1 (⟨R.val / 256, by have := R.isLt; omega⟩ : Fin 1152) :=
      funext fun a => match a with | ⟨0, _⟩ => Fin.ext (hc.trans hk.symm)
    have he : (tbl m 0 (cellE (grid0.coords t))).toNat = (expertOf (tbl m 0) ⟨R.val / 256, by have := R.isLt; omega⟩).val := by
      unfold expertOf
      rw [hcell] at hE hEn ⊢
      show _ = min (tbl m 0 (ix1 _)).toInt.toNat 63
      omega
    have hrow : cc0_transform_0 inb_S1_S1_0 numel1_S1 (tbl m) (grid0.coords t) 0 * 256 + r.val = R.val := by
      have e : cc0_transform_0 inb_S1_S1_0 numel1_S1 (tbl m) (grid0.coords t) 0
          = (Scalar.minsi (BitVec.ofNat 32 (grid0.coords t 0).val) (Scalar.subi (tbl m 1 cell0) 1#32)).toNat :=
        congrArg (fun w : BitVec 32 => (Scalar.minsi (BitVec.ofNat 32 (grid0.coords t 0).val) (Scalar.subi w 1#32)).toNat) (at_count (tbl m))
      have := row_val hR (grid0.coords t)
      rw [e]; omega
    refine (pay1_at _ _ _ _ r l).trans ?_
    refine congr (congr (congr (congr (congrArg ffn (funext fun q => ?_)) (funext fun q => funext fun j => ?_)) (funext fun q => funext fun j => ?_))
      (funext fun j => funext fun l => ?_)) rfl
    · exact rows_at m hO c t r q R hrow
    · exact first_at m hO c t q j _ he
    · exact second_at m hO c t q j _ he
    · exact last_at m hO c t j l _ he
  · rw [if_neg (fun h => hn ((cond_val _ _).mp h)), if_neg (by show ¬ ((R.val / 256 : ℕ) : Int) < _; rw [hk, ← hc]; exact hn)]
    exact pay2_at r l

/-- The result's block at a point. -/
theorem flushed_eq (hR : InRange (tbl m 0) (tbl m 1)) (c : Dev nD) (t : Fin (cfgM m hO).N) :
    (dats m hO 0 c).flushed 4 t = (((cfgM m hO).win 4).blk t).view.read (Elt Ideal) (result m c) := by
  show ((cfgM m hO).win 4).cut (grid0.coords t) ((dats m hO 0 c).after 4 t) = _
  rw [after_out]
  refine funext fun (y : S256x1024.Idx) => ?_
  have ht : t.val < 1152 := lt_of_lt_of_eq t.isLt N_0
  have hy : (y 0).val < 256 := (y 0).isLt
  have e := left_eq m hO hR c t (y 0) (y 1) ⟨t.val * 256 + (y 0).val, by omega⟩ rfl
  rw [← ix2_eta y]
  refine Eq.trans e (congrArg (result m c) (funext fun a => ?_))
  match a with
  | ⟨0, _⟩ =>
    have hc : (BitVec.ofNat 32 (grid0.coords t 0).val).toNat = t.val := (coord_toNat _).trans (coord_val t)
    refine Fin.ext ?_
    show t.val * 256 + (y 0).val = (BitVec.ofNat 32 (grid0.coords t 0).val).toNat * 256 + 1 * (y 0).val
    rw [hc]; omega
  | ⟨1, _⟩ => exact Fin.ext ((Nat.zero_add _).symm.trans (congrArg (0 + ·) (Nat.one_mul _).symm))

/-- Every point's block of the result is written. -/
theorem flush (t : Fin (cfgM m hO).N) : ((cfgM m hO).win 4).flush t = true :=
  ((fun t => (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _) :
    ∀ t : Fin grid0.N, Pipeline.Window.flushOf grid0 true cc0_transform_4 t = true)) t

/-- The blocks cover the result. -/
theorem cover (i : S294912x1024.Idx) :
    ∃ t : Fin (cfgM m hO).N, ((cfgM m hO).win 4).flush t = true ∧ i ∈ (((cfgM m hO).win 4).blk t).view.set := by
  have h0 : (i 0).val < 294912 := (i 0).isLt
  have h1 : (i 1).val < 1024 := (i 1).isLt
  let t : Fin grid0.N := ⟨(i 0).val / 256, by rw [N_0]; omega⟩
  refine ⟨t, flush m hO t, ?_⟩
  show i ∈ ((View.whole main_v3).slice (((cfgM m hO).win 4).rect t)).set
  erw [View.set_slice_whole]
  have hc : (BitVec.ofNat 32 (grid0.coords t 0).val).toNat = (i 0).val / 256 := (coord_toNat _).trans (coord_val t)
  refine (Pipeline.Window.mem_rect_iff ((cfgM m hO).win 4) t i (by rfl)).mpr fun a => ?_
  match a with
  | ⟨0, _⟩ =>
    show (BitVec.ofNat 32 (grid0.coords t 0).val).toNat * 256 ≤ (i 0).val ∧ (i 0).val < (BitVec.ofNat 32 (grid0.coords t 0).val).toNat * 256 + 256
    rw [hc]; omega
  | ⟨1, _⟩ =>
    show 0 * 1024 ≤ (i 1).val ∧ (i 1).val < 0 * 1024 + 1024
    omega

/-- The result array when every point has run. -/
theorem final (hR : InRange (tbl m 0) (tbl m 1)) (c : Dev nD) : (dats m hO 0 c).arrAt 4 (cfgM m hO).N = result m c :=
  (dats m hO 0 c).arrAt_eq_of_cover 4 (result m c) (fun t _ => flushed_eq m hO hR c t) (cover m hO)

end Cert.ExpValue

end
-- ==== Proof.ExpBits.lean ====
module

public import proofs.«01_k».proof.Proof.ExpRange
public import proofs.«01_k».proof.Proof.Gen.Exp
public import proofs.«01_k».proof.Defs

@[expose] public section

set_option maxRecDepth 16384

noncomputable section

namespace Cert.ExpFrame

open Cert.Exp.Gen Cert.ExpIdeal.Gen
open Idealize.ShloMosaic Idealize.ShloMosaic.TcCoe

variable {F : FTy → Type} [FloatOps F]

/-- The two printed copies of the kernel's body are one. -/
theorem same_body : Cert.Exp.defs₀ (F := F) = Cert.ExpIdeal.defs₀ (F := F) := by
  unfold Cert.Exp.defs₀ Cert.ExpIdeal.defs₀
  refine congrArg Defs.onTc (funext fun l => match l with
    | 0 => funext fun a => match a with | (t, s) => rfl
    | ⟨_ + 1, h⟩ => absurd h (Nat.not_lt.2 (Nat.le_add_left _ _)))

/-- The two printed copies of the host's part are one. -/
theorem same_main : Cert.Exp.main (F := F) = Cert.ExpIdeal.main (F := F) := rfl

/-- The two printed copies of the pipeline are one. -/
theorem same_pipe : Cert.Exp.pcfgs (F := F) = Cert.ExpIdeal.pcfgs (F := F) := rfl

set_option maxHeartbeats 1600000 in
/-- The two printed copies of all bodies are one. -/
theorem same_defs : Cert.Exp.defs (F := F) = Cert.ExpIdeal.defs (F := F) := by
  unfold Cert.Exp.defs Cert.ExpIdeal.defs
  exact congrArg (Pipeline.defs Cert.ExpIdeal.pcfgs) same_body

/-- The kernel's frame at its own floats, under the ranges of its tables. -/
theorem frame_Exp : Cert.quiescent_Exp := by
  intro m g h
  rw [same_defs, same_main]
  exact frame (F := Bits) m g (ok_of_pre (F := Bits) m h)

/-- The kernel's frame over the reals, under the ranges of its tables. -/
theorem frame_ExpIdeal : Cert.quiescent_ExpIdeal := fun m g h => frame (F := Ideal) m g (ok_of_pre (F := Ideal) m h)

end Cert.ExpFrame

end
-- ==== Proof.ExpPair.lean ====
module

public import proofs.«01_k».proof.Proof.ExpValue
public import proofs.«01_k».proof.Proof.Gen.ExpRefIdeal.Run
public import proofs.«01_k».proof.Proof.Gen.ExpRefIdeal.Read
public import proofs.«01_k».proof.Proof.ExpBits

@[expose] public section

set_option maxRecDepth 65536

noncomputable section

namespace Cert.ExpValue

open Idealize.ShloMosaic Idealize.ShloMosaic.TcCoe Idealize.SL.Sem
open Cert.ExpRefIdeal Cert.ExpRefIdeal.Gen Cert.ExpRefIdeal.Read

/-- A gather read at an index, from the operand index whose places are the start plus the offset. -/
theorem gather_of {α : Type} {s si t : Shape} {w : ℕ} (d : GatherDims s si t) (x : s.Idx → α) (i : IVec si w) (j : t.Idx) (k : s.Idx)
    (h : ∀ a, d.start j i a + d.batchCoord j a + d.offCoord j a = k a) : Host.gather d x i j = x k := by
  unfold Host.gather
  exact congrArg x (funext fun a => Fin.ext (h a))

/-- The gather of a first weight matrix by expert. -/
theorem gather_first (x : FVec Ideal S64x1024x256 .f32) (i : IVec S1152x1 32) (k : Fin 1152) (q : Fin 1024) (j : Fin 256) (E : Fin 64)
    (hE : min (i (ix2 k 0 : S1152x1.Idx)).toInt.toNat 63 = E.val) :
    Host.gather gather_S64x1024x256_S1152x1_S1152x1024x256_12_0_n_n_0_1_11024256 x i (ix3 k q j : S1152x1024x256.Idx)
      = x (ix3 E q j : S64x1024x256.Idx) :=
  gather_of _ x i _ _ fun a => match a with
  | ⟨0, _⟩ => by
    refine Eq.trans ?_ hE
    refine congrArg (fun b => min (i b).toInt.toNat 63) (funext fun b => ?_)
    match b with
    | ⟨0, _⟩ => rfl
    | ⟨1, _⟩ => rfl
  | ⟨1, _⟩ => Nat.zero_add _
  | ⟨2, _⟩ => Nat.zero_add _

/-- The gather of the last weight matrix by expert. -/
theorem gather_last (x : FVec Ideal S64x256x1024 .f32) (i : IVec S1152x1 32) (k : Fin 1152) (j : Fin 256) (l : Fin 1024) (E : Fin 64)
    (hE : min (i (ix2 k 0 : S1152x1.Idx)).toInt.toNat 63 = E.val) :
    Host.gather gather_S64x256x1024_S1152x1_S1152x256x1024_12_0_n_n_0_1_12561024 x i (ix3 k j l : S1152x256x1024.Idx)
      = x (ix3 E j l : S64x256x1024.Idx) :=
  gather_of _ x i _ _ fun a => match a with
  | ⟨0, _⟩ => by
    refine Eq.trans ?_ hE
    refine congrArg (fun b => min (i b).toInt.toNat 63) (funext fun b => ?_)
    match b with
    | ⟨0, _⟩ => rfl
    | ⟨1, _⟩ => rfl
  | ⟨1, _⟩ => Nat.zero_add _
  | ⟨2, _⟩ => Nat.zero_add _

/-- The reference's expert number of a block: from the table as it is, for it is never negative. -/
theorem ref_expert (e : S1152.Idx → BitVec 32) (he : ∀ k, 0 ≤ (e k).toInt) (k : Fin 1152) :
    val_main_v6 (F := Ideal) e (ix2 k 0 : S1152x1.Idx) = e (ix1 k) := by
  rw [val_main_v6_apply, val_main_v5_apply]
  have hi : idx_main_v6 (ix2 k 0 : S1152x1.Idx) = ix1 k := funext fun a => match a with | ⟨0, _⟩ => rfl
  rw [hi, val_main_v2_apply]
  have hn : ¬ IntOp.cmpi .slt (e (ix1 k)) (val_main_v1 (F := Ideal) (ix1 k)) = 1#1 := by
    rw [IntOp.cmpi_slt, val_main_v1_apply]
    have : (val_main_c (F := Ideal) (idx_main_v1 (ix1 k))).toInt = 0 := rfl
    rw [this]; exact not_lt.mpr (he _)
  exact if_neg hn

/-- The row of the array that a block's row is. -/
theorem ref_row (xs : FVec Ideal S294912x1024 .f32) (k : Fin 1152) (r : Fin 256) (q : Fin 1024) (R : Fin 294912) (h : k.val * 256 + r.val = R.val) :
    val_main_v0 (F := Ideal) xs (ix3 k r q : S1152x256x1024.Idx) = xs (ix2 R q) := by
  rw [val_main_v0_apply]
  refine congrArg xs (funext fun a => ?_)
  have hq := q.isLt
  match a with
  | ⟨0, _⟩ => refine Fin.ext ?_; show ((k.val * 256 + r.val) * 1024 + q.val) / 1024 = R.val; omega
  | ⟨1, _⟩ => refine Fin.ext ?_; show ((k.val * 256 + r.val) * 1024 + q.val) % 1024 = q.val; omega

/-- The reference's product of a block's row with its expert's first matrix. -/
theorem ref_first (e : S1152.Idx → BitVec 32) (he : ∀ k, 0 ≤ (e k).toInt) (xs : FVec Ideal S294912x1024 .f32) (w : FVec Ideal S64x1024x256 .f32)
    (k : Fin 1152) (r : Fin 256) (j : Fin 256) (R : Fin 294912) (h : k.val * 256 + r.val = R.val) :
    val_main_v22 (F := Ideal) e xs w (ix3 k r j : S1152x256x256.Idx) = ∑ q : Fin 1024, xs (ix2 R q) * w (ix3 (expertOf e k) q j) := by
  rw [val_main_v22_apply]
  refine Finset.sum_congr rfl fun q _ => ?_
  refine congr (congrArg HMul.hMul ?_) ?_
  · refine Eq.trans (congrArg _ (funext fun a => ?_)) (ref_row xs k r q R h)
    match a with
    | ⟨0, _⟩ => rfl
    | ⟨1, _⟩ => rfl
    | ⟨2, _⟩ => rfl
  · refine Eq.trans (congrArg _ (funext fun a => ?_)) (gather_first w (val_main_v6 (F := Ideal) e) k q j (expertOf e k) (by rw [ref_expert e he]; rfl))
    match a with
    | ⟨0, _⟩ => rfl
    | ⟨1, _⟩ => rfl
    | ⟨2, _⟩ => rfl

/-- The second product is the first one's lines with the second matrix. -/
theorem ref_second (e : S1152.Idx → BitVec 32) (xs : FVec Ideal S294912x1024 .f32) (w : FVec Ideal S64x1024x256 .f32) :
    val_main_v24 (F := Ideal) e xs w = val_main_v22 (F := Ideal) e xs w := rfl

/-- The reference's gated product. -/
theorem ref_gated (e : S1152.Idx → BitVec 32) (he : ∀ k, 0 ≤ (e k).toInt) (xs : FVec Ideal S294912x1024 .f32) (w1 w3 : FVec Ideal S64x1024x256 .f32)
    (k : Fin 1152) (r : Fin 256) (j : Fin 256) (R : Fin 294912) (h : k.val * 256 + r.val = R.val) :
    val_main_v25 (F := Ideal) e xs w1 w3 (ix3 k r j : S1152x256x256.Idx)
      = gated (fun q => xs (ix2 R q)) (fun q j => w1 (ix3 (expertOf e k) q j)) (fun q j => w3 (ix3 (expertOf e k) q j)) j := by
  pointwise [val_main_v25, val_main_v23, val_main_call0_v5, val_main_call0_v4, val_main_call0_cst_0, val_main_call0_v3, val_main_call0_v2, val_main_call0_cst, val_main_call0_v1, val_main_call0_v0]
  rw [ref_second, ref_first e he xs w1 k r j R h, ref_first e he xs w3 k r j R h]
  rfl

/-- The count of active blocks, as the reference reads it. -/
theorem ref_used (n : S1.Idx → BitVec 32) (k : Fin 1152) (r : Fin 256) (l : Fin 1024) :
    val_main_call1_v1 (F := Ideal) n (ix3 k r l : S1152x256x1024.Idx) = 1#1 ↔ (k.val : Int) < (n Cert.ExpFrame.cell0).toInt := by
  rw [val_main_call1_v1_apply, val_main_v31_apply, val_main_v30_apply, IntOp.cmpi_slt, val_main_v27_apply, val_main_v29_apply]
  have h1 : val_main_v28 (F := Ideal) n (idx_main_v29 (idx_main_v31 (idx_main_call1_v1 (ix3 k r l : S1152x256x1024.Idx)))) = n Cert.ExpFrame.cell0 :=
    Cert.ExpFrame.count_cell n _ _
  rw [h1]
  have h2 : (BitVec.ofNat 32 (idx_main_v31 (idx_main_call1_v1 (ix3 k r l : S1152x256x1024.Idx)) 0).val).toInt = k.val :=
    WordCmp.toInt_ofNat_of_lt (lt_trans k.isLt (by decide))
  rw [h2]

/-- The reference's result, entry by entry. -/
theorem ref_val (e : S1152.Idx → BitVec 32) (he : ∀ k, 0 ≤ (e k).toInt) (n : S1.Idx → BitVec 32) (xs : FVec Ideal S294912x1024 .f32)
    (w1 w3 : FVec Ideal S64x1024x256 .f32) (w2 : FVec Ideal S64x256x1024 .f32) (R : Fin 294912) (l : Fin 1024) (k : Fin 1152) (hk : k.val = R.val / 256) :
    val_main_v33 (F := Ideal) e n xs w1 w3 w2 (ix2 R l : S294912x1024.Idx) = val e n xs w1 w3 w2 k R l := by
  rw [val_main_v33_apply]
  have hl := l.isLt
  have hi : idx_main_v33 (ix2 R l : S294912x1024.Idx) = ix3 k (⟨R.val % 256, by omega⟩ : Fin 256) l := funext fun a => match a with
    | ⟨0, _⟩ => by refine Fin.ext ?_; show (R.val * 1024 + l.val) / 262144 = k.val; omega
    | ⟨1, _⟩ => by refine Fin.ext ?_; show (R.val * 1024 + l.val) / 1024 % 256 = R.val % 256; omega
    | ⟨2, _⟩ => by refine Fin.ext ?_; show (R.val * 1024 + l.val) % 1024 = l.val; omega
  rw [hi, val_main_v32_apply]
  unfold val Scalar.select
  by_cases hn : (k.val : Int) < (n Cert.ExpFrame.cell0).toInt
  · rw [if_pos hn]
    refine (if_pos ((ref_used n k _ l).mpr hn)).trans ?_
    rw [val_main_v26_apply]
    unfold ffn
    refine Finset.sum_congr rfl fun j _ => congr (congrArg HMul.hMul ?_) ?_
    · refine Eq.trans (congrArg _ (funext fun a => ?_)) (ref_gated e he xs w1 w3 k ⟨R.val % 256, by omega⟩ j R (by show k.val * 256 + R.val % 256 = R.val; omega))
      match a with
      | ⟨0, _⟩ => rfl
      | ⟨1, _⟩ => rfl
      | ⟨2, _⟩ => rfl
    · refine Eq.trans (congrArg _ (funext fun a => ?_)) (gather_last w2 (val_main_v20 (F := Ideal) e) k j l (expertOf e k)
        (by rw [show val_main_v20 (F := Ideal) e = val_main_v6 (F := Ideal) e from rfl, ref_expert e he]; rfl))
      match a with
      | ⟨0, _⟩ => rfl
      | ⟨1, _⟩ => rfl
      | ⟨2, _⟩ => rfl
  · rw [if_neg hn]
    refine (if_neg (fun h => hn ((ref_used n k _ l).mp h))).trans ?_
    pointwise [val_main_call1_v2, val_main_call1_v0, val_main_cst]
    show constant (F := Ideal) S_ .f32 0x00000000#32 ix0 = 0
    pointwise

/-- The kernel's run: its result is the value, and its arguments are as they were. -/
theorem run (m : (ℓ : Loc Cert.ExpIdeal.nD Cert.ExpIdeal.τ Cert.ExpIdeal.sig) → Buf (Elt Ideal) ℓ) (g : Dev Cert.ExpIdeal.nD → PrngReg)
    (h : Cert.ExpFrame.InRange (Cert.ExpFrame.tbl m 0) (Cert.ExpFrame.tbl m 1)) :
    θ_run (Cert.ExpIdeal.defs (F := Ideal)) (onTc (τ := Cert.ExpIdeal.τ) (Cert.ExpIdeal.main (F := Ideal))) ⟨m, fun _ => 0, g⟩
      (fun r => ∀ c : Dev Cert.ExpIdeal.nD,
        r.2.mem ((c.tc : Thread Cert.ExpIdeal.nD Cert.ExpIdeal.τ).loc Cert.ExpIdeal.main_v3) = result m c
        ∧ r.2.mem ((c.tc : Thread Cert.ExpIdeal.nD Cert.ExpIdeal.τ).loc Cert.ExpIdeal.main_arg0) = m ((c.tc : Thread Cert.ExpIdeal.nD Cert.ExpIdeal.τ).loc Cert.ExpIdeal.main_arg0)
        ∧ r.2.mem ((c.tc : Thread Cert.ExpIdeal.nD Cert.ExpIdeal.τ).loc Cert.ExpIdeal.main_arg1) = m ((c.tc : Thread Cert.ExpIdeal.nD Cert.ExpIdeal.τ).loc Cert.ExpIdeal.main_arg1)
        ∧ r.2.mem ((c.tc : Thread Cert.ExpIdeal.nD Cert.ExpIdeal.τ).loc Cert.ExpIdeal.main_arg2) = m ((c.tc : Thread Cert.ExpIdeal.nD Cert.ExpIdeal.τ).loc Cert.ExpIdeal.main_arg2)
        ∧ r.2.mem ((c.tc : Thread Cert.ExpIdeal.nD Cert.ExpIdeal.τ).loc Cert.ExpIdeal.main_arg3) = m ((c.tc : Thread Cert.ExpIdeal.nD Cert.ExpIdeal.τ).loc Cert.ExpIdeal.main_arg3)
        ∧ r.2.mem ((c.tc : Thread Cert.ExpIdeal.nD Cert.ExpIdeal.τ).loc Cert.ExpIdeal.main_arg4) = m ((c.tc : Thread Cert.ExpIdeal.nD Cert.ExpIdeal.τ).loc Cert.ExpIdeal.main_arg4)
        ∧ r.2.mem ((c.tc : Thread Cert.ExpIdeal.nD Cert.ExpIdeal.τ).loc Cert.ExpIdeal.main_arg5) = m ((c.tc : Thread Cert.ExpIdeal.nD Cert.ExpIdeal.τ).loc Cert.ExpIdeal.main_arg5)) :=
  have hO := Cert.ExpFrame.ok_of_range _ h
  (θ_run _ _ _).mono (fun _ hr c => ⟨((hr.1 c).1 4).trans (final m hO h c), Cert.ExpFrame.args_kept m hO hr.1 c⟩) (Cert.ExpFrame.launch m g hO)

/-- The experts' call computes its reference, on tables in range. -/
theorem algebraic : Cert.algebraic_ExpIdeal_ExpRefIdeal := by
  intro m g m' g' hpre hag
  have hR := Cert.ExpFrame.tbl_range m hpre
  refine ⟨fun c => result m c, run m g hR, ?_⟩
  refine (θ_run _ _ _).mono (fun r h c => ?_) (Cert.ExpRefIdeal.Value.run m' g')
  obtain ⟨a0, a1, a2, a3, a4, a5⟩ := hag c
  obtain rfl : c = 0 := Subsingleton.elim _ _
  refine ⟨(h 0).1.trans ?_, (h 0).2⟩
  refine funext fun (i : S294912x1024.Idx) => ?_
  have hi : (i 0).val < 294912 := (i 0).isLt
  have e := ref_val (Cert.ExpFrame.tbl m 0) (fun k => (hR.1 k).1) (Cert.ExpFrame.tbl m 1)
    (m (((0 : Dev Cert.ExpIdeal.nD).tc : Thread Cert.ExpIdeal.nD Cert.ExpIdeal.τ).loc Cert.ExpIdeal.main_arg2))
    (m (((0 : Dev Cert.ExpIdeal.nD).tc : Thread Cert.ExpIdeal.nD Cert.ExpIdeal.τ).loc Cert.ExpIdeal.main_arg3))
    (m (((0 : Dev Cert.ExpIdeal.nD).tc : Thread Cert.ExpIdeal.nD Cert.ExpIdeal.τ).loc Cert.ExpIdeal.main_arg4))
    (m (((0 : Dev Cert.ExpIdeal.nD).tc : Thread Cert.ExpIdeal.nD Cert.ExpIdeal.τ).loc Cert.ExpIdeal.main_arg5))
    (i 0) (i 1) ⟨(i 0).val / 256, by omega⟩ rfl
  refine Eq.trans ?_ (e.trans rfl)
  rw [a0, a1, a2, a3, a4, a5, (Cert.ExpFrame.tbl_eq m).1, (Cert.ExpFrame.tbl_eq m).2]
  exact congrArg (val_main_v33 (F := Ideal) _ _ _ _ _ _) (eq_ix2 i)

/-- The reference's frame: every run ends, with its arguments as they were. -/
theorem frame_ref : Cert.quiescent_ExpRefIdeal := by
  intro m g _
  exact (θ_run Cert.ExpRefIdeal.defs _ _).mono (fun r h => ⟨fun c => (h c).2, sem_eq_zero_of_no_sems (by decide) r.2⟩)
    (Cert.ExpRefIdeal.Value.run (F := Ideal) m g)

end Cert.ExpValue

end
-- ==== Proof.lean ====
module

public import proofs.«01_k».proof.Defs
public import proofs.«01_k».proof.Proof.Gen.Proj.Frame
public import proofs.«01_k».proof.Proof.Gen.Mix.Frame
public import proofs.«01_k».proof.Proof.ProjPair
public import proofs.«01_k».proof.Proof.NaPair
public import proofs.«01_k».proof.Proof.MixPair
public import proofs.«01_k».proof.Proof.ExpPair
public import proofs.«01_k».proof.Proof.Gen.Na.Frame
public import proofs.«01_k».proof.Proof.Gen.NaIdeal.Value
public import proofs.«01_k».proof.Proof.Gen.NaRefIdeal.Run
public import proofs.«01_k».proof.Proof.Gen.Pre_na_finite
public import Idealize.ShloMosaic.Lib.Claim

@[expose] public section

noncomputable section

namespace Cert.Proof

open Idealize.ShloMosaic Idealize.SL.Sem

/-- The input projection's reference ends with its arguments unchanged and every semaphore at zero. -/
theorem frame_ProjRefIdeal : Cert.quiescent_ProjRefIdeal := by
  intro m g _
  exact (θ_run Cert.ProjRefIdeal.defs _ _).mono (fun r h => ⟨fun c => (h c).2.2.2.2.2.2, sem_eq_zero_of_no_sems (by decide) r.2⟩)
    (Cert.ProjRefIdeal.Value.run (F := Ideal) m g)

/-- The mixing reference ends with its arguments unchanged and every semaphore at zero. -/
theorem frame_MixRefIdeal : Cert.quiescent_MixRefIdeal := by
  intro m g _
  exact (θ_run Cert.MixRefIdeal.defs _ _).mono (fun r h => ⟨fun c => (h c).2.2, sem_eq_zero_of_no_sems (by decide) r.2⟩)
    (Cert.MixRefIdeal.Value.run (F := Ideal) m g)

theorem claim : Cert.Claim := ⟨Cert.Na.Gen.facts, Cert.NaIdeal.Gen.facts, Cert.NaRefIdeal.Gen.facts, Cert.Proj.Gen.facts, Cert.ProjIdeal.Gen.facts, Cert.ProjRefIdeal.Gen.facts,
  Cert.Mix.Gen.facts, Cert.MixIdeal.Gen.facts, Cert.MixRefIdeal.Gen.facts, Cert.Exp.Gen.facts, Cert.ExpIdeal.Gen.facts, Cert.ExpRefIdeal.Gen.facts,
  Cert.Pre_na_finite.Gen.facts, Cert.Pre_exp_ranges.Gen.facts,
  fun m ρ _ => Cert.Na.Gen.frame m ρ, fun m ρ _ => Cert.NaIdeal.Gen.frame m ρ, fun m ρ _ => Cert.NaIdeal.Gen.frame m ρ,
  Cert.NaPair.frame_ref, fun m ρ _ => Cert.NaPair.frame_ref m ρ trivial,
  fun m ρ _ => Cert.Proj.Gen.frame m ρ, fun m ρ _ => Cert.ProjIdeal.Gen.frame m ρ, frame_ProjRefIdeal,
  fun m ρ _ => Cert.Mix.Gen.frame m ρ, fun m ρ _ => Cert.MixIdeal.Gen.frame m ρ, frame_MixRefIdeal,
  Cert.ExpFrame.frame_Exp, Cert.ExpFrame.frame_ExpIdeal, Cert.ExpValue.frame_ref, fun m ρ _ => Cert.ExpValue.frame_ref m ρ trivial,
  trivial, Cert.NaPair.algebraic, trivial, Cert.ProjValue.algebraic, trivial, Cert.MixValue.algebraic, trivial, Cert.ExpValue.algebraic⟩

end Cert.Proof

end
